-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cut_clear [hPre_cut_clear : Cert.Pre_cut_clear.Facts] (m : (ℓ : Loc Cert.KernelIdeal.nD Cert.KernelIdeal.τ Cert.KernelIdeal.sig) → Buf (Elt Ideal) ℓ) : Prop :=
  ∀ c : Dev Cert.KernelIdeal.nD,
    (Cert.Pre_cut_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_cut_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cut_clear [hPre_cut_clear : Cert.Pre_cut_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cut_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_cut_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cut_clear [hKernelIdeal : Cert.KernelIdeal.Facts] [hPre_cut_clear : Cert.Pre_cut_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cut_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cut_clear [hReferenceIdeal : Cert.ReferenceIdeal.Facts] [hPre_cut_clear : Cert.Pre_cut_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cut_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_cut_clear [hKernelIdeal : Cert.KernelIdeal.Facts] [hReferenceIdeal : Cert.ReferenceIdeal.Facts] [hPre_cut_clear : Cert.Pre_cut_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cut_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_cut_clear : Cert.Pre_cut_clear.Facts),
    quiescent_Kernel (hKernel := hKernel)
    ∧ quiescent_KernelIdeal (hKernelIdeal := hKernelIdeal)
    ∧ quiescent_KernelIdeal_pre_cut_clear (hKernelIdeal := hKernelIdeal) (hPre_cut_clear := hPre_cut_clear)
    ∧ quiescent_ReferenceIdeal (hReferenceIdeal := hReferenceIdeal)
    ∧ quiescent_ReferenceIdeal_pre_cut_clear (hReferenceIdeal := hReferenceIdeal) (hPre_cut_clear := hPre_cut_clear)
    ∧ preserves_Kernel_KernelIdeal
    ∧ algebraic_KernelIdeal_ReferenceIdeal_pre_cut_clear (hKernelIdeal := hKernelIdeal) (hReferenceIdeal := hReferenceIdeal) (hPre_cut_clear := hPre_cut_clear)
-- ==== Pre_cut_clear.lean ====
abbrev S256x100000 : Shape := ⟨2, ![256, 100000]⟩
abbrev S256 : Shape := ⟨1, ![256]⟩
abbrev S256x1 : Shape := ⟨2, ![256, 1]⟩
abbrev S_ : Shape := ⟨0, ![]⟩
abbrev S100000 : Shape := ⟨1, ![100000]⟩
abbrev S1x100000 : Shape := ⟨2, ![1, 100000]⟩
abbrev S32x800000 : Shape := ⟨2, ![32, 800000]⟩
abbrev S32x8 : Shape := ⟨2, ![32, 8]⟩
abbrev S32x1 : Shape := ⟨2, ![32, 1]⟩
abbrev S256x9 : Shape := ⟨2, ![256, 9]⟩

class Facts : Prop where
  slices_S256x100000_S256x1_0_2 : S256x100000.Slices ![0, 2] S256x1
  shapeCasts_S256x1_S256 : S256x1.ShapeCasts S256
  reducesTo_S256x100000_S256_d1 : S256x100000.ReducesTo [1] S256
  h_S_ : 0 < S_.numel
  bcast_S_S256 : S_.BroadcastsInDim S256 (![] : Fin 0 → Fin S256.rank)
  bcast_S_S100000 : S_.BroadcastsInDim S100000 (![] : Fin 0 → Fin S100000.rank)
  bcast_S100000_S1x100000_1 : S100000.BroadcastsInDim S1x100000 (![1] : Fin 1 → Fin S1x100000.rank)
  bcast_S256_S256x1_0 : S256.BroadcastsInDim S256x1 (![0] : Fin 1 → Fin S256x1.rank)
  bcast_S1x100000_S256x100000_0_1 : S1x100000.BroadcastsInDim S256x100000 (![0, 1] : Fin 2 → Fin S256x100000.rank)
  bcast_S256x1_S256x100000_0_1 : S256x1.BroadcastsInDim S256x100000 (![0, 1] : Fin 2 → Fin S256x100000.rank)
  bcast_S_S256x100000 : S_.BroadcastsInDim S256x100000 (![] : Fin 0 → Fin S256x100000.rank)
  shapeCasts_S256x100000_S32x800000 : S256x100000.ShapeCasts S32x800000
  sliceFits_S32x800000_S32x8 : S32x800000.Slices (fun _ => 0) S32x8
  slices_S32x8_S32x1_0_7 : S32x8.Slices ![0, 7] S32x1
  sliceFits_S256x100000_S256x9 : S256x100000.Slices (fun _ => 0) S256x9
  slices_S256x9_S256x1_0_8 : S256x9.Slices ![0, 8] S256x1
  shapeCasts_S256_S32x8 : S256.ShapeCasts S32x8
  bcast_S32x1_S32x8_0_1 : S32x1.BroadcastsInDim S32x8 (![0, 1] : Fin 2 → Fin S32x8.rank)

variable [Facts]

def fn_where {F : FTy → Type} [FloatOps F] (arg0 : IVec S256x100000 1) (arg1 : FVec F S_ .f32) (arg2 : FVec F S256x100000 .f32) : FVec F S256x100000 .f32 :=
  let v0 : FVec F S256x100000 .f32 := broadcastInDim S256x100000 ![] bcast_S_S256x100000 arg1
  let v1 : FVec F S256x100000 .f32 := select arg0 v0 arg2
  v1

def fn_part1 {F : FTy → Type} [FloatOps F] (main_arg1 : FVec F S256 .f32) (main_v5 : IVec S256 1) (main_v18 : FVec F S256x100000 .f32) (main_v19 : FVec F S32x800000 .f32) : IVec S32x8 1 × IVec S32x8 1 :=
  let main_values : FVec F S32x8 .f32 := (fun x => (Host.topK S32x8 1 (FloatOps.cmpfTotal .gt) x sliceFits_S32x800000_S32x8).1) main_v19
  let main_indices : IVec S32x8 32 := (fun x => (Host.topK S32x8 1 (FloatOps.cmpfTotal .gt) x sliceFits_S32x800000_S32x8).2) main_v19
  let main_v20 : FVec F S32x1 .f32 := (extractStridedSlice S32x1 ![0, 7] · slices_S32x8_S32x1_0_7) main_values
  let main_values_2 : FVec F S256x9 .f32 := (fun x => (Host.topK S256x9 1 (FloatOps.cmpfTotal .gt) x sliceFits_S256x100000_S256x9).1) main_v18
  let main_indices_3 : IVec S256x9 32 := (fun x => (Host.topK S256x9 1 (FloatOps.cmpfTotal .gt) x sliceFits_S256x100000_S256x9).2) main_v18
  let main_v21 : FVec F S256x1 .f32 := (extractStridedSlice S256x1 ![0, 8] · slices_S256x9_S256x1_0_8) main_values_2
  let main_v22 : FVec F S256 .f32 := shapeCast S256 main_v21 shapeCasts_S256x1_S256
  let main_cst_4 : FVec F S_ .f32 := constant S_ .f32 0xE0AD78EC#32
  let main_v23 : FVec F S256 .f32 := broadcastInDim S256 ![] bcast_S_S256 main_cst_4
  let main_v24 : FVec F S256 .f32 := addf main_v23 main_arg1
  let main_v25 : FVec F S32x8 .f32 := shapeCast S32x8 main_v22 shapeCasts_S256_S32x8
  let main_v26 : FVec F S32x8 .f32 := broadcastInDim S32x8 ![0, 1] bcast_S32x1_S32x8_0_1 main_v20
  let main_v27 : IVec S32x8 1 := cmpf .olt main_v25 main_v26
  let main_v28 : IVec S32x8 1 := shapeCast S32x8 main_v5 shapeCasts_S256_S32x8
  let main_v29 : FVec F S32x8 .f32 := shapeCast S32x8 main_v24 shapeCasts_S256_S32x8
  let main_v30 : FVec F S32x8 .f32 := broadcastInDim S32x8 ![0, 1] bcast_S32x1_S32x8_0_1 main_v20
  let main_v31 : IVec S32x8 1 := cmpf .olt main_v29 main_v30
  let main_v32 : IVec S32x8 1 := ori main_v28 main_v31
  (main_v27, main_v32)

def fn {F : FTy → Type} [FloatOps F] (main_arg0 : FVec F S256x100000 .f32) (main_arg1 : FVec F S256 .f32) : IVec S32x8 1 × IVec S32x8 1 :=
  let main_v0 : FVec F S256x1 .f32 := (extractStridedSlice S256x1 ![0, 2] · slices_S256x100000_S256x1_0_2) main_arg0
  let main_v1 : FVec F S256 .f32 := shapeCast S256 main_v0 shapeCasts_S256x1_S256
  let main_cst : FVec F S_ .f32 := constant S_ .f32 0xFF800000#32
  let main_v2 : FVec F S256 .f32 := (fun x v => Host.reduce FloatOps.maximumf x v reducesTo_S256x100000_S256_d1 h_S_) main_arg0 main_cst
  let main_cst_0 : FVec F S_ .f32 := constant S_ .f32 0x3FC00000#32
  let main_v3 : FVec F S256 .f32 := broadcastInDim S256 ![] bcast_S_S256 main_cst_0
  let main_v4 : FVec F S256 .f32 := mulf main_v3 main_v2
  let main_v5 : IVec S256 1 := cmpf .ogt main_v1 main_v4
  let main_v6 : IVec S100000 32 := iotaInDim S100000 32 0
  let main_c : IVec S_ 32 := constantI S_ 32 2#32
  let main_v7 : IVec S100000 32 := broadcastInDim S100000 ![] bcast_S_S100000 main_c
  let main_v8 : IVec S100000 1 := cmpi .eq main_v6 main_v7
  let main_v9 : IVec S1x100000 1 := broadcastInDim S1x100000 ![1] bcast_S100000_S1x100000_1 main_v8
  let main_v10 : IVec S256 1 := noti main_v5
  let main_v11 : IVec S256x1 1 := broadcastInDim S256x1 ![0] bcast_S256_S256x1_0 main_v10
  let main_v12 : IVec S256x100000 1 := broadcastInDim S256x100000 ![0, 1] bcast_S1x100000_S256x100000_0_1 main_v9
  let main_v13 : IVec S256x100000 1 := broadcastInDim S256x100000 ![0, 1] bcast_S256x1_S256x100000_0_1 main_v11
  let main_v14 : IVec S256x100000 1 := andi main_v12 main_v13
  let main_cst_1 : FVec F S_ .f32 := constant S_ .f32 0xE0AD78EC#32
  let main_v15 : FVec F S256x100000 .f32 := fn_where (F := F) main_v14 main_cst_1 main_arg0
  let main_v16 : FVec F S256x1 .f32 := broadcastInDim S256x1 ![0] bcast_S256_S256x1_0 main_arg1
  let main_v17 : FVec F S256x100000 .f32 := broadcastInDim S256x100000 ![0, 1] bcast_S256x1_S256x100000_0_1 main_v16
  let main_v18 : FVec F S256x100000 .f32 := addf main_v15 main_v17
  let main_v19 : FVec F S32x800000 .f32 := shapeCast S32x800000 main_v18 shapeCasts_S256x100000_S32x800000
  fn_part1 (F := F) main_arg1 main_v5 main_v18 main_v19
-- ==== Kernel.lean ====
abbrev S256x100000 : Shape := ⟨2, ![256, 100000]⟩
abbrev S256 : Shape := ⟨1, ![256]⟩
abbrev S32x8x1 : Shape := ⟨3, ![32, 8, 1]⟩
abbrev S32x8x100000 : Shape := ⟨3, ![32, 8, 100000]⟩
abbrev S32x1x8 : Shape := ⟨3, ![32, 1, 8]⟩
abbrev S1x8x2048 : Shape := ⟨3, ![1, 8, 2048]⟩
abbrev S1x8x1 : Shape := ⟨3, ![1, 8, 1]⟩
abbrev S1x1x8 : Shape := ⟨3, ![1, 1, 8]⟩
abbrev S8x8x128 : Shape := ⟨3, ![8, 8, 128]⟩
abbrev S8x1 : Shape := ⟨2, ![8, 1]⟩
abbrev S8x2048 : Shape := ⟨2, ![8, 2048]⟩
abbrev S8 : Shape := ⟨1, ![8]⟩
abbrev S8x128 : Shape := ⟨2, ![8, 128]⟩
abbrev S1x8x128 : Shape := ⟨3, ![1, 8, 128]⟩
abbrev S64x128 : Shape := ⟨2, ![64, 128]⟩
abbrev S1x64x128 : Shape := ⟨3, ![1, 64, 128]⟩
abbrev S1 : Shape := ⟨1, ![1]⟩
abbrev S1x1x1 : Shape := ⟨3, ![1, 1, 1]⟩
abbrev S32x8 : Shape := ⟨2, ![32, 8]⟩

abbrev nBuf : Space → Nat
  | .hbm => 10
  | .vmem => 14
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S32x8x1, .f32⟩
  | .hbm, ⟨3, _⟩ => ⟨S32x8x100000, .f32⟩
  | .hbm, ⟨4, _⟩ => ⟨S32x1x8, .f32⟩
  | .hbm, ⟨5, _⟩ => ⟨S32x1x8, .i32⟩
  | .hbm, ⟨6, _⟩ => ⟨S32x1x8, .i32⟩
  | .hbm, ⟨7, _⟩ => ⟨S32x8, .f32⟩
  | .hbm, ⟨8, _⟩ => ⟨S32x8, .i32⟩
  | .hbm, ⟨9, _⟩ => ⟨S32x8, .i32⟩
  | .local _ .vmem, ⟨0, _⟩ => ⟨S1x8x2048, .f32⟩
  | .local _ .vmem, ⟨1, _⟩ => ⟨S1x8x2048, .f32⟩
  | .local _ .vmem, ⟨2, _⟩ => ⟨S1x8x1, .f32⟩
  | .local _ .vmem, ⟨3, _⟩ => ⟨S1x8x1, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .i32⟩
  | .local _ .vmem, ⟨7, _⟩ => ⟨S1x1x8, .i32⟩
  | .local _ .vmem, ⟨8, _⟩ => ⟨S1x1x8, .i32⟩
  | .local _ .vmem, ⟨9, _⟩ => ⟨S1x1x8, .i32⟩
  | .local _ .vmem, ⟨10, _⟩ => ⟨S8x8x128, .f32⟩
  | .local _ .vmem, ⟨11, _⟩ => ⟨S8x8x128, .i32⟩
  | .local _ .vmem, ⟨12, _⟩ => ⟨S8x1, .f32⟩
  | .local _ .vmem, ⟨13, _⟩ => ⟨S8x1, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 49], ![false, false]⟩

def k0_cond3 (i : grid0.Coords) : BitVec 1 :=
  let arg1 : BitVec 32 := BitVec.ofNat 32 (i 1).val
  let c48_i32 : BitVec 32 := 48#32
  let v1946 : BitVec 1 := Scalar.cmpi .eq arg1 c48_i32
  let v1947 : BitVec 32 := Scalar.extui v1946
  let c0_i32_1539 : BitVec 32 := 0#32
  let v1948 : BitVec 1 := Scalar.cmpi .ne v1947 c0_i32_1539
  v1948

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S256x100000 : Shape := ⟨2, ![256, 100000]⟩
abbrev S256 : Shape := ⟨1, ![256]⟩
abbrev S_ : Shape := ⟨0, ![]⟩
abbrev S256x1 : Shape := ⟨2, ![256, 1]⟩
abbrev S100000 : Shape := ⟨1, ![100000]⟩
abbrev S1x100000 : Shape := ⟨2, ![1, 100000]⟩
abbrev S32x800000 : Shape := ⟨2, ![32, 800000]⟩
abbrev S32x8 : Shape := ⟨2, ![32, 8]⟩
abbrev S32 : Shape := ⟨1, ![32]⟩
abbrev S32x1 : Shape := ⟨2, ![32, 1]⟩

abbrev nBuf : Space → Nat
  | .hbm => 76
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256x1, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .i1⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S1x100000, .i1⟩
  | .hbm, ⟨15, _⟩ => ⟨S256, .i1⟩
  | .hbm, ⟨16, _⟩ => ⟨S256x1, .i1⟩
  | .hbm, ⟨17, _⟩ => ⟨S256x100000, .i1⟩
  | .hbm, ⟨18, _⟩ => ⟨S256x100000, .i1⟩
  | .hbm, ⟨19, _⟩ => ⟨S256x100000, .i1⟩
  | .hbm, ⟨20, _⟩ => ⟨S_, .f32⟩
  | .hbm, ⟨21, _⟩ => ⟨S256x100000, .f32⟩
  | .hbm, ⟨22, _⟩ => ⟨S256x100000, .f32⟩
  | .hbm, ⟨23, _⟩ => ⟨S256x1, .f32⟩
  | .hbm, ⟨24, _⟩ => ⟨S256x100000, .f32⟩
  | .hbm, ⟨25, _⟩ => ⟨S256x100000, .f32⟩
  | .hbm, ⟨26, _⟩ => ⟨S32x800000, .f32⟩
  | .hbm, ⟨27, _⟩ => ⟨S32x8, .f32⟩
  | .hbm, ⟨28, _⟩ => ⟨S32x8, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S32x8, .i32⟩
  | .hbm, ⟨36, _⟩ => ⟨S32x8, .i32⟩
  | .hbm, ⟨37, _⟩ => ⟨S_, .i32⟩
  | .hbm, ⟨38, _⟩ => ⟨S32x8, .i32⟩
  | .hbm, ⟨39, _⟩ => ⟨S32x8, .i1⟩
  | .hbm, ⟨40, _⟩ => ⟨S_, .i32⟩
  | .hbm, ⟨41, _⟩ => ⟨S32x8, .i32⟩
  | .hbm, ⟨42, _⟩ => ⟨S32x8, .i1⟩
  | .hbm, ⟨43, _⟩ => ⟨S_, .i32⟩
  | .hbm, ⟨44, _⟩ => ⟨S_, .i1⟩
  | .hbm, ⟨45, _⟩ => ⟨S32x8, .i1⟩
  | .hbm, ⟨46, _⟩ => ⟨S32x8, .i1⟩
  | .hbm, ⟨47, _⟩ => ⟨S32x8, .i1⟩
  | .hbm, ⟨48, _⟩ => ⟨S32x8, .i32⟩
  | .hbm, ⟨49, _⟩ => ⟨S32x8, .i32⟩
  | .hbm, ⟨50, _⟩ => ⟨S32x8, .i32⟩
  | .hbm, ⟨51, _⟩ => ⟨S32, .i32⟩
  | .hbm, ⟨52, _⟩ => ⟨S32x1, .i32⟩
  | .hbm, ⟨53, _⟩ => ⟨S_, .i32⟩
  | .hbm, ⟨54, _⟩ => ⟨S32x1, .i32⟩
  | .hbm, ⟨55, _⟩ => ⟨S32x1, .i32⟩
  | .hbm, ⟨56, _⟩ => ⟨S_, .i32⟩
  | .hbm, ⟨57, _⟩ => ⟨S_, .i32⟩
  | .hbm, ⟨58, _⟩ => ⟨S32x8, .i32⟩
  | .hbm, ⟨59, _⟩ => ⟨S32x8, .i32⟩
  | .hbm, ⟨60, _⟩ => ⟨S32x8, .i32⟩
  | .hbm, ⟨61, _⟩ => ⟨S_, .i32⟩
  | .hbm, ⟨62, _⟩ => ⟨S32x8, .i32⟩
  | .hbm, ⟨63, _⟩ => ⟨S32x8, .i1⟩
  | .hbm, ⟨64, _⟩ => ⟨S32x8, .i32⟩
  | .hbm, ⟨65, _⟩ => ⟨S32x8, .i32⟩
  | .hbm, ⟨66, _⟩ => ⟨S_, .i32⟩
  | .hbm, ⟨67, _⟩ => ⟨S32x8, .i32⟩
  | .hbm, ⟨68, _⟩ => ⟨S32x8, .i1⟩
  | .hbm, ⟨69, _⟩ => ⟨S32x8, .i1⟩
  | .hbm, ⟨70, _⟩ => ⟨S_, .i32⟩
  | .hbm, ⟨71, _⟩ => ⟨S32x8, .i32⟩
  | .hbm, ⟨72, _⟩ => ⟨S32x8, .i32⟩
  | .hbm, ⟨73, _⟩ => ⟨S32x8, .i32⟩
  | .hbm, ⟨74, _⟩ => ⟨S32x8, .i32⟩
  | .hbm, ⟨75, _⟩ => ⟨S32x8, .i32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_values : Ref sig .tc := ⟨.hbm, 27, rfl⟩
abbrev main_indices : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_3 : Ref sig .tc := ⟨.hbm, 53, rfl⟩
abbrev main_v23 : Ref sig .tc := ⟨.hbm, 54, rfl⟩
abbrev main_v24 : Ref sig .tc := ⟨.hbm, 55, rfl⟩
abbrev main_c_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩

abbrev nD : Nat := 1
abbrev τ : Topo := Topo.v7x

variable {F : FTy → Type} [FloatOps F]
-- ==== Proof.Steps.lean ====
/-
  The straight-line steps of the beam-search kernel as program text of its own, over any signature and any float
  values: one slot of the insertion chain, the insertion of one 8 x 128 tile into the eight slots, and what each
  leaves in the two slot buffers. The whole loads and stores of the buffers are read through `owns`.
-/
module

public import Idealize.ShloMosaic.Lib.VecWindow
public import Idealize.ShloMosaic.Lib.Pipeline.FrameBody
public import Idealize.ShloMosaic.Lib.Tactic

@[expose] public section

noncomputable section

namespace Cert.Beam

open Idealize.ShloMosaic
open Idealize.SL Idealize.SL.RA Idealize.SL.BI
open scoped Idealize.SL.BI
open Idealize.SL.BI.BIBase Idealize.SL.BI.Laws Idealize.SL.ProofMode Idealize.SL.Sem

abbrev S8x8x128 : Shape := ⟨3, ![8, 8, 128]⟩
abbrev S1x8x128 : Shape := ⟨3, ![1, 8, 128]⟩
abbrev S8x128 : Shape := ⟨2, ![8, 128]⟩
abbrev S64x128 : Shape := ⟨2, ![64, 128]⟩
abbrev S1x64x128 : Shape := ⟨3, ![1, 64, 128]⟩
abbrev S8x1 : Shape := ⟨2, ![8, 1]⟩
abbrev S8 : Shape := ⟨1, ![8]⟩
abbrev S1 : Shape := ⟨1, ![1]⟩
abbrev S1x1x1 : Shape := ⟨3, ![1, 1, 1]⟩
abbrev S8x2048 : Shape := ⟨2, ![8, 2048]⟩
abbrev S1x8x2048 : Shape := ⟨3, ![1, 8, 2048]⟩
abbrev S1x8x1 : Shape := ⟨3, ![1, 8, 1]⟩
abbrev S1x1x8 : Shape := ⟨3, ![1, 1, 8]⟩

/-- Two requests of one effect agree when what follows them does. -/
theorem op_congr {E : Type → Type} {α β : Type} {e : E β} {c c' : β → Prog E α} (h : ∀ x, c x = c' x) :
    Prog.op e c = Prog.op e c' := by
  rw [funext h]

/-- Grafting twice is grafting the grafted. -/
theorem bind_assoc {E : Type → Type} {α β γ : Type} (p : Prog E α) (k : α → Prog E β) (l : β → Prog E γ) :
    (p.bind k).bind l = p.bind fun a => (k a).bind l := by
  induction p with
  | ret a => rfl
  | op e c ih => exact op_congr ih

section Access

variable {nD : Nat} {τ : Topo} {sig : RefSig} {Val : EltTy → Type} {Λ : Labels}
variable {Ix : Type} [DecidableEq Ix] {Name : Type} [DecidableEq Name] [Infinite Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type} {Q : α → sProp (MT nD τ sig Ix Val Name U Lvl)} {s : Shape} {e : EltTy}

/-- A load through a unit-stride rectangle of a memref owned at `X` reads the window of `X` there. -/
theorem owns_load {cs : CoreSpace} {m : Memref sig c.2.kind cs s e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} {X : s.Idx → Val e} :
    (owns c m fullShare X : sProp 𝕄)
      ⊢ iprop((owns c m fullShare X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (S := m.view.set) (Finset.map_subset_map.2 (Finset.subset_univ _))) $$ H
  iintro H
  subst hf
  iapply Hk
  iexists f; isplitr
  · ipureintro; rfl
  · iexact H

/-- An unmasked store through a unit-stride rectangle of a memref owned at `X` leaves `X` with the payload there. -/
theorem owns_store {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = (Finset.univ : Finset (Rect.unit off size inb).shape.Idx) ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (m := m) (r := Rect.unit off size inb) (S := m.view.set) (hx := hx) (hm := hm)
    (by rw [View.setOn_univ]; exact m.view.set_slice _ ▸ Finset.map_subset_map.2 (Finset.subset_univ _))) $$ H
  iintro H
  subst hf
  iapply Hk
  iexists _; isplitr
  · ipureintro; exact View.read_writes_cons_put m.view f inb w [] rfl
  · iexact H

end Access

end Cert.Beam
-- ==== Proof.Step.lean ====
/-
  The body of the beam-search kernel as one program text over any signature, any float values and any value of the
  mask: the two conditional blocks at its head, the sixteen 8 x 128 tiles inserted one after the other into the eight
  slots of the two slot buffers, and the block that closes a batch row. Each piece is written with what follows it as
  an argument.
-/
module

public import proofs.«01_k».proof.Proof.Steps

@[expose] public section

noncomputable section

namespace Cert.Beam

open Idealize.ShloMosaic
open Idealize.SL.Sem

/-! ## The shape facts the operations cite -/

theorem inb_slot (k : ℕ) (hk : k < 8) : ∀ a, (![k, 0, 0] : Fin 3 → ℕ) a + S1x8x128.size a ≤ S8x8x128.size a := by
  intro a; fin_cases a <;> simp [S1x8x128, S8x8x128] <;> omega
theorem inb_slots : ∀ a, (![0, 0, 0] : Fin 3 → ℕ) a + S8x8x128.size a ≤ S8x8x128.size a := by decide
theorem inb_col : ∀ a, (![0, 0] : Fin 2 → ℕ) a + S8x1.size a ≤ S8x1.size a := by decide
theorem inb_block : ∀ a, (![0, 0, 0] : Fin 3 → ℕ) a + S1x8x2048.size a ≤ S1x8x2048.size a := by decide
theorem inb_seq : ∀ a, (![0, 0, 0] : Fin 3 → ℕ) a + S1x8x1.size a ≤ S1x8x1.size a := by decide
theorem inb_out : ∀ a, (![0, 0, 0] : Fin 3 → ℕ) a + S1x1x8.size a ≤ S1x1x8.size a := by decide
theorem pos_slot : 0 < S1x8x128.numel := by decide
theorem pos_slots : 0 < S8x8x128.numel := by decide
theorem pos_col : 0 < S8x1.numel := by decide
theorem pos_block : 0 < S1x8x2048.numel := by decide
theorem pos_seq : 0 < S1x8x1.numel := by decide
theorem pos_out : 0 < S1x1x8.numel := by decide
theorem cast_slot : S1x8x128.ShapeCasts S8x128 := by decide
theorem cast_tile : S8x128.ShapeCasts S1x8x128 := by decide
theorem cast_slots : S8x8x128.ShapeCasts S8x8x128 := by decide
theorem cast_col : S8x1.ShapeCasts S8x1 := by decide
theorem cast_rows : S8.ShapeCasts S8x1 := by decide
theorem cast_block : S1x8x2048.ShapeCasts S8x2048 := by decide
theorem cast_seq : S1x8x1.ShapeCasts S8x1 := by decide
theorem cast_cand : S8x8x128.ShapeCasts S64x128 := by decide
theorem cast_cand1 : S64x128.ShapeCasts S1x64x128 := by decide
theorem cast_one : S1.ShapeCasts S1x1x1 := by decide
theorem reduces_block : S8x2048.Reduces [1] S8 := by decide
theorem reduces_cand : S1x64x128.Reduces [1, 2] S1 := by decide
theorem slices_eos : S8x2048.Slices ![0, 2] S8x1 := by decide
theorem slices_tile (j : ℕ) (hj : j < 16) : S8x2048.Slices ![0, 128 * j] S8x128 := by
  refine ⟨rfl, fun a => ?_⟩
  obtain ⟨_ | _ | a, ha⟩ := a
  · show 0 + 8 ≤ 8; decide
  · show 128 * j + 128 ≤ 2048; omega
  · exact absurd ha (by simp)
theorem bcast_block : S8x1.Broadcasts S8x2048 := by decide
theorem bcast_tile : S8x1.Broadcasts S8x128 := by decide
theorem bcast_cand : S64x128.Broadcasts S64x128 := by decide
theorem bcast_out : S1x1x8.Broadcasts S1x1x8 := by decide
theorem iota_block : S8x2048.Iotas .tc 32 [1] := by decide
theorem iota_tile : S8x128.Iotas .tc 32 [1] := by decide
theorem iota_cand : S64x128.Iotas .tc 32 [0] := by decide
theorem iota_out : S1x1x8.Iotas .tc 32 [2] := by decide
theorem at_one : ∀ a, (![0, 0, 0] : Fin 3 → ℕ) a < S1x1x1.size a := by decide

section Values

variable {F : FTy → Type} [FloatOps F]

/-! ## The values the body computes -/

/-- The column numbers of the block at vocabulary step `v`. -/
def cols (v : BitVec 32) : IVec S8x2048 32 :=
  addi (iota .tc S8x2048 32 [1] iota_block) (broadcast S8x2048 (Scalar.muli v 2048#32))

/-- The block with the mask in its columns past the vocabulary. -/
def masked (μ : F .f32) (v : BitVec 32) (x : Vec F S1x8x2048 .f32) : FVec F S8x2048 .f32 :=
  select (cmpi .slt (cols v) (broadcast S8x2048 100000#32)) (shapeCast S8x2048 x cast_block) (broadcast S8x2048 μ)

/-- Each beam's maximum over the masked block. -/
def rowMax (X : FVec F S8x2048 .f32) : FVec F S8x1 .f32 :=
  shapeCast S8x1 (multiReduction .maximumf [1] S8 X 0xFF800000#32 reduces_block (.inl rfl) rfl) cast_rows

/-- The beams' scores of the sequence as a column. -/
def seqCol (s : Vec F S1x8x1 .f32) : FVec F S8x1 .f32 := shapeCast S8x1 s cast_seq

/-- The block's scores: EOS masked, the sequence's score added. -/
def scoreBlock (μ : F .f32) (v : BitVec 32) (X : FVec F S8x2048 .f32) (s : FVec F S8x1 .f32) : FVec F S8x2048 .f32 :=
  addf (select (cmpi .eq (cols v) (broadcast S8x2048 2#32)) (broadcast S8x2048 μ) X) (broadcastTo S8x2048 s bcast_block)

/-- Whether the vocabulary step is the first, as the kernel asks it. -/
def first (v : BitVec 32) : BitVec 1 := Scalar.cmpi .ne (Scalar.extui (Scalar.cmpi .eq v 0#32) : BitVec 32) 0#32
/-- Whether the vocabulary step is a later one. -/
def later (v : BitVec 32) : BitVec 1 := Scalar.cmpi .ne (Scalar.extui (Scalar.cmpi .sgt v 0#32) : BitVec 32) 0#32
/-- Whether the vocabulary step is the last. -/
def last (v : BitVec 32) : BitVec 1 := Scalar.cmpi .ne (Scalar.extui (Scalar.cmpi .eq v 48#32) : BitVec 32) 0#32

/-- The EOS entries offered last: lane 0 of a beam that keeps EOS holds its score, every other lane the mask. -/
def eosTile (μ : F .f32) (e m s : FVec F S8x1 .f32) : FVec F S8x128 .f32 :=
  select (cmpi .eq (iota .tc S8x128 32 [1] iota_tile) (broadcast S8x128 0#32))
    (broadcastTo S8x128
      (shapeCast S8x1 (select (cmpf .ogt e (mulf (broadcast S8x1 (Scalar.ofBits .f32 0x3FC00000#32)) m)) (addf e s) (broadcast S8x1 μ)) cast_col)
      bcast_tile)
    (broadcast S8x128 μ)

/-- The candidates' flat positions `beam * 100000 + column`. -/
def flatOf (I : IVec S8x8x128 32) : IVec S64x128 32 :=
  let eight : BitVec 32 := Scalar.select (Scalar.cmpi .eq 8#32 0#32) 1#32 8#32
  let r : IVec S64x128 32 := remsi (iota .tc S64x128 32 [0] iota_cand) (broadcast S64x128 eight)
  let neg : IVec S64x128 1 := broadcastTo S64x128 (broadcast S64x128 (Scalar.cmpi .slt eight 0#32)) bcast_cand
  let fix : IVec S64x128 1 := andi (xori (cmpi .slt r (broadcast S64x128 0#32)) neg) (cmpi .ne r (broadcast S64x128 0#32))
  addi (muli (select fix (addi r (broadcast S64x128 eight)) r) (broadcast S64x128 100000#32)) (shapeCast S64x128 I cast_cand)

/-- The largest candidate. -/
def best (c : FVec F S64x128 .f32) : F .f32 :=
  extractAt ![0, 0, 0]
    (shapeCast S1x1x1 (multiReduction .maximumf [1, 2] S1 (shapeCast S1x64x128 c cast_cand1) 0xFF800000#32 reduces_cand (.inl rfl) rfl) cast_one)
    at_one
/-- Where the largest candidate is attained. -/
def hits (c : FVec F S64x128 .f32) : IVec S64x128 1 := cmpf .oeq c (broadcast S64x128 (best c))
/-- The smallest flat position among the largest candidates. -/
def bestAt (fl : IVec S64x128 32) (c : FVec F S64x128 .f32) : BitVec 32 :=
  extractAt ![0, 0, 0]
    (shapeCast S1x1x1
      (multiReductionI .minsi [1, 2] S1 (shapeCast S1x64x128 (select (hits c) fl (broadcast S64x128 2147483647#32)) cast_cand1) 2147483647#32
        reduces_cand rfl) cast_one)
    at_one
/-- The candidates with the one chosen masked out. -/
def drop (μ : F .f32) (fl : IVec S64x128 32) (c : FVec F S64x128 .f32) : FVec F S64x128 .f32 :=
  select (andi (hits c) (cmpi .eq fl (broadcast S64x128 (bestAt fl c)))) (broadcast S64x128 μ) c

/-- The candidates after `k` rounds. -/
def candAt (μ : F .f32) (fl : IVec S64x128 32) (c : FVec F S64x128 .f32) : ℕ → FVec F S64x128 .f32
  | 0 => c
  | k + 1 => drop μ fl (candAt μ fl c k)

/-- The positions of the result row. -/
def lanes8 : IVec S1x1x8 32 := iota .tc S1x1x8 32 [2] iota_out

/-- The scores found in the first `k` rounds, zero elsewhere. -/
def scoresAt (μ : F .f32) (fl : IVec S64x128 32) (c : FVec F S64x128 .f32) : ℕ → FVec F S1x1x8 .f32
  | 0 => broadcast S1x1x8 (Scalar.ofBits .f32 0x00000000#32)
  | k + 1 => select (cmpi .eq lanes8 (broadcast S1x1x8 (BitVec.ofNat 32 k))) (broadcast S1x1x8 (best (candAt μ fl c k))) (scoresAt μ fl c k)

/-- The flat positions found in the first `k` rounds, zero elsewhere. -/
def flatsAt (μ : F .f32) (fl : IVec S64x128 32) (c : FVec F S64x128 .f32) : ℕ → IVec S1x1x8 32
  | 0 => broadcast S1x1x8 0#32
  | k + 1 => select (cmpi .eq lanes8 (broadcast S1x1x8 (BitVec.ofNat 32 k))) (broadcast S1x1x8 (bestAt fl (candAt μ fl c k))) (flatsAt μ fl c k)

/-- The column of a flat position: the remainder by the vocabulary, with the sign of the divisor. -/
def colOf (f : IVec S1x1x8 32) : IVec S1x1x8 32 :=
  let n : BitVec 32 := Scalar.select (Scalar.cmpi .eq 100000#32 0#32) 1#32 100000#32
  let r : IVec S1x1x8 32 := remsi f (broadcast S1x1x8 n)
  let neg : IVec S1x1x8 1 := broadcastTo S1x1x8 (broadcast S1x1x8 (Scalar.cmpi .slt n 0#32)) bcast_out
  let fix : IVec S1x1x8 1 := andi (xori (cmpi .slt r (broadcast S1x1x8 0#32)) neg) (cmpi .ne r (broadcast S1x1x8 0#32))
  select fix (addi r (broadcast S1x1x8 n)) r

/-- The row of beams of a flat position: the quotient by the vocabulary rounded down, plus eight per batch row. -/
def beamOf (b : BitVec 32) (f : IVec S1x1x8 32) : IVec S1x1x8 32 :=
  let q : IVec S1x1x8 32 := divsi f (broadcast S1x1x8 100000#32)
  let sgn : IVec S1x1x8 32 := subi (extui 32 (cmpi .sgt f (broadcast S1x1x8 0#32)) (by decide)) (extui 32 (cmpi .slt f (broadcast S1x1x8 0#32)) (by decide))
  let one : BitVec 32 := Scalar.subi (Scalar.extui (Scalar.cmpi .sgt 100000#32 0#32) : BitVec 32) (Scalar.extui (Scalar.cmpi .slt 100000#32 0#32) : BitVec 32)
  let r : IVec S1x1x8 32 := remsi f (broadcast S1x1x8 100000#32)
  let fix : IVec S1x1x8 1 := andi (cmpi .ne sgn (broadcast S1x1x8 one)) (cmpi .ne r (broadcast S1x1x8 0#32))
  addi (select fix (subi q (broadcast S1x1x8 1#32)) q) (broadcast S1x1x8 (Scalar.muli b 8#32))

end Values

section Programs

variable {F : FTy → Type} [FloatOps F] {nD : ℕ} {τ : Topo} {sig : RefSig} {Λ : Labels} {α : Type}

/-- One slot of the insertion chain: the slot keeps the larger of itself and the value offered (the earlier at a tie),
    the other goes on. -/
def slot (k : ℕ) (hk : k < 8) (a7 : Memref sig .tc .vmem S8x8x128 .f32) (a8 : Memref sig .tc .vmem S8x8x128 .i32)
    (val : FVec F S8x128 .f32) (idx : IVec S8x128 32)
    (K : FVec F S8x128 .f32 → IVec S8x128 32 → Prog (TpuEff nD τ sig (Elt F) Λ .tc) α) : Prog (TpuEff nD τ sig (Elt F) Λ .tc) α :=
  .op (.load a7 (Rect.unit (s := S8x8x128) ![k, 0, 0] S1x8x128.size (inb_slot k hk)).toLoadRect (View.loadsAt_vmem pos_slot)) fun t =>
  .op (.load a8 (Rect.unit (s := S8x8x128) ![k, 0, 0] S1x8x128.size (inb_slot k hk)).toLoadRect (View.loadsAt_vmem pos_slot)) fun u =>
  .op (.load a7 (Rect.unit (s := S8x8x128) ![k, 0, 0] S1x8x128.size (inb_slot k hk)).toLoadRect (View.loadsAt_vmem pos_slot)) fun _ =>
  .op (.store a7 (Rect.unit (s := S8x8x128) ![k, 0, 0] S1x8x128.size (inb_slot k hk))
    (shapeCast S1x8x128 (select (cmpf .ogt val (shapeCast S8x128 t cast_slot)) val (shapeCast S8x128 t cast_slot)) cast_tile : FVec F S1x8x128 .f32)
    Finset.univ (View.stores_vmem_bits_univ pos_slot rfl) (.inl rfl)) fun _ =>
  .op (.load a8 (Rect.unit (s := S8x8x128) ![k, 0, 0] S1x8x128.size (inb_slot k hk)).toLoadRect (View.loadsAt_vmem pos_slot)) fun _ =>
  .op (.store a8 (Rect.unit (s := S8x8x128) ![k, 0, 0] S1x8x128.size (inb_slot k hk))
    (shapeCast S1x8x128 (select (cmpf .ogt val (shapeCast S8x128 t cast_slot)) idx (shapeCast S8x128 u cast_slot)) cast_tile : IVec S1x8x128 32)
    Finset.univ (View.stores_vmem_bits_univ pos_slot rfl) (.inl rfl)) fun _ =>
  K (select (cmpf .ogt val (shapeCast S8x128 t cast_slot)) (shapeCast S8x128 t cast_slot) val)
    (select (cmpf .ogt val (shapeCast S8x128 t cast_slot)) (shapeCast S8x128 u cast_slot) idx)

/-- The first `n` slots in turn. -/
def chain (a7 : Memref sig .tc .vmem S8x8x128 .f32) (a8 : Memref sig .tc .vmem S8x8x128 .i32) :
    (n : ℕ) → n ≤ 8 → FVec F S8x128 .f32 → IVec S8x128 32 →
    (FVec F S8x128 .f32 → IVec S8x128 32 → Prog (TpuEff nD τ sig (Elt F) Λ .tc) α) → Prog (TpuEff nD τ sig (Elt F) Λ .tc) α
  | 0, _, val, idx, K => K val idx
  | n + 1, h, val, idx, K => chain a7 a8 n (by omega) val idx fun val idx => slot n (by omega) a7 a8 val idx K

/-- A tile inserted: all eight slots, what falls out forgotten. -/
def insert (a7 : Memref sig .tc .vmem S8x8x128 .f32) (a8 : Memref sig .tc .vmem S8x8x128 .i32)
    (val : FVec F S8x128 .f32) (idx : IVec S8x128 32) (K : Prog (TpuEff nD τ sig (Elt F) Λ .tc) α) : Prog (TpuEff nD τ sig (Elt F) Λ .tc) α :=
  chain a7 a8 8 (by decide) val idx fun _ _ => K

/-- The first `n` tiles of a block inserted in turn. -/
def tiles (a7 : Memref sig .tc .vmem S8x8x128 .f32) (a8 : Memref sig .tc .vmem S8x8x128 .i32)
    (V : FVec F S8x2048 .f32) (C : IVec S8x2048 32) :
    (n : ℕ) → n ≤ 16 → Prog (TpuEff nD τ sig (Elt F) Λ .tc) α → Prog (TpuEff nD τ sig (Elt F) Λ .tc) α
  | 0, _, K => K
  | n + 1, h, K => tiles a7 a8 V C n (by omega)
      (insert a7 a8 (extractStridedSlice S8x128 ![0, 128 * n] V (slices_tile n (by omega)))
        (extractStridedSlice S8x128 ![0, 128 * n] C (slices_tile n (by omega))) K)

/-- The first vocabulary step's block: the EOS entry, the maximum, and empty slots. -/
def initBlock (μ : F .f32) (a7 : Memref sig .tc .vmem S8x8x128 .f32) (a8 : Memref sig .tc .vmem S8x8x128 .i32)
    (a9 a10 : Memref sig .tc .vmem S8x1 .f32) (X : FVec F S8x2048 .f32)
    (K : Prog (TpuEff nD τ sig (Elt F) Λ .tc) α) : Prog (TpuEff nD τ sig (Elt F) Λ .tc) α :=
  .op (.load a10 (Rect.unit (s := S8x1) ![0, 0] S8x1.size inb_col).toLoadRect (View.loadsAt_vmem pos_col)) fun _ =>
  .op (.store a10 (Rect.unit (s := S8x1) ![0, 0] S8x1.size inb_col)
    (shapeCast S8x1 (extractStridedSlice S8x1 ![0, 2] X slices_eos) cast_col : FVec F S8x1 .f32)
    Finset.univ (View.stores_vmem_bits_univ pos_col rfl) (.inl rfl)) fun _ =>
  .op (.load a9 (Rect.unit (s := S8x1) ![0, 0] S8x1.size inb_col).toLoadRect (View.loadsAt_vmem pos_col)) fun _ =>
  .op (.store a9 (Rect.unit (s := S8x1) ![0, 0] S8x1.size inb_col)
    (shapeCast S8x1 (rowMax X) cast_col : FVec F S8x1 .f32)
    Finset.univ (View.stores_vmem_bits_univ pos_col rfl) (.inl rfl)) fun _ =>
  .op (.load a7 (Rect.unit (s := S8x8x128) ![0, 0, 0] S8x8x128.size inb_slots).toLoadRect (View.loadsAt_vmem pos_slots)) fun _ =>
  .op (.store a7 (Rect.unit (s := S8x8x128) ![0, 0, 0] S8x8x128.size inb_slots)
    (shapeCast S8x8x128 (broadcast S8x8x128 μ) cast_slots : FVec F S8x8x128 .f32)
    Finset.univ (View.stores_vmem_bits_univ pos_slots rfl) (.inl rfl)) fun _ =>
  .op (.load a8 (Rect.unit (s := S8x8x128) ![0, 0, 0] S8x8x128.size inb_slots).toLoadRect (View.loadsAt_vmem pos_slots)) fun _ =>
  .op (.store a8 (Rect.unit (s := S8x8x128) ![0, 0, 0] S8x8x128.size inb_slots)
    (shapeCast S8x8x128 (broadcast S8x8x128 0#32) cast_slots : IVec S8x8x128 32)
    Finset.univ (View.stores_vmem_bits_univ pos_slots rfl) (.inl rfl)) fun _ =>
  K

/-- A later vocabulary step's block: the running maximum. -/
def maxBlock (a9 : Memref sig .tc .vmem S8x1 .f32) (X : FVec F S8x2048 .f32)
    (K : Prog (TpuEff nD τ sig (Elt F) Λ .tc) α) : Prog (TpuEff nD τ sig (Elt F) Λ .tc) α :=
  .op (.load a9 (Rect.unit (s := S8x1) ![0, 0] S8x1.size inb_col).toLoadRect (View.loadsAt_vmem pos_col)) fun m =>
  .op (.load a9 (Rect.unit (s := S8x1) ![0, 0] S8x1.size inb_col).toLoadRect (View.loadsAt_vmem pos_col)) fun _ =>
  .op (.store a9 (Rect.unit (s := S8x1) ![0, 0] S8x1.size inb_col)
    (shapeCast S8x1 (maximumf m (rowMax X)) cast_col : FVec F S8x1 .f32)
    Finset.univ (View.stores_vmem_bits_univ pos_col rfl) (.inl rfl)) fun _ =>
  K

/-- The block that closes a batch row: EOS offered to the slots, eight rounds over the candidates, the three results. -/
def finalBlock (μ : F .f32) (b : BitVec 32) (a4 : Memref sig .tc .vmem S1x1x8 .f32) (a5 a6 : Memref sig .tc .vmem S1x1x8 .i32)
    (a7 : Memref sig .tc .vmem S8x8x128 .f32) (a8 : Memref sig .tc .vmem S8x8x128 .i32)
    (a9 a10 : Memref sig .tc .vmem S8x1 .f32) (s : FVec F S8x1 .f32)
    (K : Prog (TpuEff nD τ sig (Elt F) Λ .tc) α) : Prog (TpuEff nD τ sig (Elt F) Λ .tc) α :=
  .op (.load a10 (Rect.unit (s := S8x1) ![0, 0] S8x1.size inb_col).toLoadRect (View.loadsAt_vmem pos_col)) fun e =>
  .op (.load a9 (Rect.unit (s := S8x1) ![0, 0] S8x1.size inb_col).toLoadRect (View.loadsAt_vmem pos_col)) fun m =>
  .op (.load a10 (Rect.unit (s := S8x1) ![0, 0] S8x1.size inb_col).toLoadRect (View.loadsAt_vmem pos_col)) fun (e' : Vec F S8x1 .f32) =>
  insert a7 a8
    (select (cmpi .eq (iota .tc S8x128 32 [1] iota_tile) (broadcast S8x128 0#32))
      (broadcastTo S8x128
        (shapeCast S8x1 (select (cmpf .ogt e (mulf (broadcast S8x1 (Scalar.ofBits .f32 0x3FC00000#32)) m)) (addf e' s) (broadcast S8x1 μ)) cast_col)
        bcast_tile)
      (broadcast S8x128 μ)) (broadcast S8x128 2#32) <|
  .op (.load a7 (Rect.unit (s := S8x8x128) ![0, 0, 0] S8x8x128.size inb_slots).toLoadRect (View.loadsAt_vmem pos_slots)) fun T =>
  .op (.load a8 (Rect.unit (s := S8x8x128) ![0, 0, 0] S8x8x128.size inb_slots).toLoadRect (View.loadsAt_vmem pos_slots)) fun (I : Vec F S8x8x128 .i32) =>
  .op (.load a4 (Rect.unit (s := S1x1x8) ![0, 0, 0] S1x1x8.size inb_out).toLoadRect (View.loadsAt_vmem pos_out)) fun _ =>
  .op (.store a4 (Rect.unit (s := S1x1x8) ![0, 0, 0] S1x1x8.size inb_out)
    (scoresAt μ (flatOf I) (shapeCast S64x128 T cast_cand) 8 : FVec F S1x1x8 .f32)
    Finset.univ (View.stores_vmem_bits_univ pos_out rfl) (.inl rfl)) fun _ =>
  .op (.load a5 (Rect.unit (s := S1x1x8) ![0, 0, 0] S1x1x8.size inb_out).toLoadRect (View.loadsAt_vmem pos_out)) fun _ =>
  .op (.store a5 (Rect.unit (s := S1x1x8) ![0, 0, 0] S1x1x8.size inb_out)
    (colOf (flatsAt μ (flatOf I) (shapeCast S64x128 T cast_cand) 8) : IVec S1x1x8 32)
    Finset.univ (View.stores_vmem_bits_univ pos_out rfl) (.inl rfl)) fun _ =>
  .op (.load a6 (Rect.unit (s := S1x1x8) ![0, 0, 0] S1x1x8.size inb_out).toLoadRect (View.loadsAt_vmem pos_out)) fun _ =>
  .op (.store a6 (Rect.unit (s := S1x1x8) ![0, 0, 0] S1x1x8.size inb_out)
    (beamOf b (flatsAt μ (flatOf I) (shapeCast S64x128 T cast_cand) 8) : IVec S1x1x8 32)
    Finset.univ (View.stores_vmem_bits_univ pos_out rfl) (.inl rfl)) fun _ =>
  K

/-- The body at batch row `b`, vocabulary step `v`. -/
def step (μ : F .f32) (b v : BitVec 32) (a2 : Memref sig .tc .vmem S1x8x2048 .f32) (a3 : Memref sig .tc .vmem S1x8x1 .f32)
    (a4 : Memref sig .tc .vmem S1x1x8 .f32) (a5 a6 : Memref sig .tc .vmem S1x1x8 .i32)
    (a7 : Memref sig .tc .vmem S8x8x128 .f32) (a8 : Memref sig .tc .vmem S8x8x128 .i32)
    (a9 a10 : Memref sig .tc .vmem S8x1 .f32) : Prog (TpuEff nD τ sig (Elt F) Λ .tc) PUnit :=
  .op (.load a2 (Rect.unit (s := S1x8x2048) ![0, 0, 0] S1x8x2048.size inb_block).toLoadRect (View.loadsAt_vmem pos_block)) fun x =>
  .op (.load a3 (Rect.unit (s := S1x8x1) ![0, 0, 0] S1x8x1.size inb_seq).toLoadRect (View.loadsAt_vmem pos_seq)) fun s =>
  let rest : Prog (TpuEff nD τ sig (Elt F) Λ .tc) PUnit :=
    tiles a7 a8 (scoreBlock μ v (masked μ v x) (seqCol s)) (cols v) 16 (by decide) <|
      if last v = 1#1 then finalBlock μ b a4 a5 a6 a7 a8 a9 a10 (seqCol s) (.ret ⟨⟩) else .ret ⟨⟩
  let mid : Prog (TpuEff nD τ sig (Elt F) Λ .tc) PUnit :=
    if later v = 1#1 then maxBlock a9 (masked μ v x) rest else rest
  if first v = 1#1 then initBlock μ a7 a8 a9 a10 (masked μ v x) mid else mid

end Programs

end Cert.Beam
-- ==== Proof.Triple.lean ====
/-
  What the body leaves in the buffers it owns: each piece of the program text of Step.lean against the contents of the
  buffers, as pure functions of what they held.
-/
module

public import proofs.«01_k».proof.Proof.Step

@[expose] public section

noncomputable section

namespace Cert.Beam

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Pure

variable {F : FTy → Type} [FloatOps F]

/-- What the slots hold: their values and their columns. -/
structure Slots (F : FTy → Type) where
  T : S8x8x128.Idx → F .f32
  I : S8x8x128.Idx → BitVec 32

/-- What is offered to a slot: values and columns. -/
structure Offer (F : FTy → Type) where
  v : FVec F S8x128 .f32
  i : IVec S8x128 32

/-- The values of slot `k`. -/
def Slots.val (S : Slots F) (k : ℕ) (hk : k < 8) : FVec F S8x128 .f32 :=
  shapeCast S8x128 (VecWindow.window S.T ![k, 0, 0] S1x8x128.size (inb_slot k hk)) cast_slot
/-- The columns of slot `k`. -/
def Slots.idx (S : Slots F) (k : ℕ) (hk : k < 8) : IVec S8x128 32 :=
  shapeCast S8x128 (VecWindow.window S.I ![k, 0, 0] S1x8x128.size (inb_slot k hk)) cast_slot

/-- Where the offer is larger than slot `k`. -/
def gtAt (S : Slots F) (o : Offer F) (k : ℕ) (hk : k < 8) : IVec S8x128 1 := cmpf .ogt o.v (S.val k hk)

/-- The slots after slot `k` has taken the larger. -/
def slotS (S : Slots F) (o : Offer F) (k : ℕ) (hk : k < 8) : Slots F where
  T := VecWindow.put S.T ![k, 0, 0] S1x8x128.size
    (shapeCast S1x8x128 (select (gtAt S o k hk) o.v (S.val k hk)) cast_tile : FVec F S1x8x128 .f32)
  I := VecWindow.put S.I ![k, 0, 0] S1x8x128.size
    (shapeCast S1x8x128 (select (gtAt S o k hk) o.i (S.idx k hk)) cast_tile : IVec S1x8x128 32)

/-- What goes on from slot `k`. -/
def slotO (S : Slots F) (o : Offer F) (k : ℕ) (hk : k < 8) : Offer F where
  v := select (gtAt S o k hk) (S.val k hk) o.v
  i := select (gtAt S o k hk) (S.idx k hk) o.i

/-- The slots and the offer after the first `n` slots. -/
def chainP (S : Slots F) (o : Offer F) : (n : ℕ) → n ≤ 8 → Slots F × Offer F
  | 0, _ => (S, o)
  | n + 1, h =>
    let p := chainP S o n (by omega)
    (slotS p.1 p.2 n (by omega), slotO p.1 p.2 n (by omega))

/-- The slots after an insertion. -/
def insertS (S : Slots F) (o : Offer F) : Slots F := (chainP S o 8 (by decide)).1

/-- Tile `n` of a block of values and columns. -/
def tileOf (V : FVec F S8x2048 .f32) (C : IVec S8x2048 32) (n : ℕ) (hn : n < 16) : Offer F where
  v := extractStridedSlice S8x128 ![0, 128 * n] V (slices_tile n hn)
  i := extractStridedSlice S8x128 ![0, 128 * n] C (slices_tile n hn)

/-- The slots after the first `n` tiles of a block. -/
def tilesS (S : Slots F) (V : FVec F S8x2048 .f32) (C : IVec S8x2048 32) : (n : ℕ) → n ≤ 16 → Slots F
  | 0, _ => S
  | n + 1, h => insertS (tilesS S V C n (by omega)) (tileOf V C n (by omega))

/-- The empty slots. -/
def emptyS (μ : F .f32) : Slots F where
  T := shapeCast S8x8x128 (broadcast S8x8x128 μ) cast_slots
  I := shapeCast S8x8x128 (broadcast S8x8x128 0#32) cast_slots

/-- What the four carried buffers hold. -/
structure Carry (F : FTy → Type) where
  S : Slots F
  m : S8x1.Idx → F .f32
  e : S8x1.Idx → F .f32

/-- The carried buffers after the two blocks at the body's head. -/
def headC (μ : F .f32) (v : BitVec 32) (X : FVec F S8x2048 .f32) (c : Carry F) : Carry F where
  S := if first v = 1#1 then emptyS μ else c.S
  m :=
    let m₀ := if first v = 1#1 then shapeCast S8x1 (rowMax X) cast_col else c.m
    if later v = 1#1 then shapeCast S8x1 (maximumf m₀ (rowMax X)) cast_col else m₀
  e := if first v = 1#1 then shapeCast S8x1 (extractStridedSlice S8x1 ![0, 2] X slices_eos) cast_col else c.e

/-- The carried buffers after the tiles. -/
def bodyC (μ : F .f32) (v : BitVec 32) (x : S1x8x2048.Idx → F .f32) (s : S1x8x1.Idx → F .f32) (c : Carry F) : Carry F :=
  let h := headC μ v (masked μ v x) c
  { h with S := tilesS h.S (scoreBlock μ v (masked μ v x) (seqCol s)) (cols v) 16 (by decide) }

/-- The slots after the EOS entries have been offered. -/
def closeS (μ : F .f32) (s : S1x8x1.Idx → F .f32) (c : Carry F) : Slots F :=
  insertS c.S ⟨eosTile μ c.e c.m (seqCol s), broadcast S8x128 2#32⟩

/-- The carried buffers after the whole body. -/
def stepC (μ : F .f32) (v : BitVec 32) (x : S1x8x2048.Idx → F .f32) (s : S1x8x1.Idx → F .f32) (c : Carry F) : Carry F :=
  let d := bodyC μ v x s c
  if last v = 1#1 then { d with S := closeS μ s d } else d

/-- The candidates of closed slots. -/
def candOf (S : Slots F) : FVec F S64x128 .f32 := shapeCast S64x128 S.T cast_cand

/-- The result row of scores, of closed slots. -/
def out0 (μ : F .f32) (S : Slots F) : FVec F S1x1x8 .f32 := scoresAt μ (flatOf S.I) (candOf S) 8
/-- The result row of columns. -/
def out1 (μ : F .f32) (S : Slots F) : IVec S1x1x8 32 := colOf (flatsAt μ (flatOf S.I) (candOf S) 8)
/-- The result row of beams. -/
def out2 (μ : F .f32) (b : BitVec 32) (S : Slots F) : IVec S1x1x8 32 := beamOf b (flatsAt μ (flatOf S.I) (candOf S) 8)

end Pure

section Whole

/-- A window of everything is everything. -/
theorem window_all {s : Shape} {β : Type} {off : Fin s.rank → ℕ} (h0 : off = fun _ => 0) (x : s.Idx → β)
    (inb : ∀ a, off a + s.size a ≤ s.size a) : VecWindow.window x off s.size inb = x := by
  subst h0
  funext j
  unfold VecWindow.window
  congr 1
  funext a
  exact Fin.ext (by show 0 + 1 * (j a).val = (j a).val; omega)

/-- A put of everything leaves the payload. -/
theorem put_all {s : Shape} {β : Type} {off : Fin s.rank → ℕ} (h0 : off = fun _ => 0) (x : s.Idx → β)
    (w : s.Idx → β) : VecWindow.put x off s.size w = w := by
  subst h0
  funext j
  unfold VecWindow.put
  rw [dif_pos (fun a => ⟨Nat.zero_le _, by simpa using (j a).isLt⟩)]
  congr 1

theorem zeros3 : (![0, 0, 0] : Fin 3 → ℕ) = fun _ => 0 := by decide
theorem zeros2 : (![0, 0] : Fin 2 → ℕ) = fun _ => 0 := by decide

end Whole

section Wp

variable {F : FTy → Type} [FloatOps F]
variable {nD : Nat} {τ : Topo} {sig : RefSig} {Λ : Labels}
variable {Ix : Type} [DecidableEq Ix] {Name : Type} [DecidableEq Name] [Infinite Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable {α : Type} {Q : α → sProp (MT nD τ sig Ix (Elt F) Name U Lvl)}
variable {a2 : Memref sig .tc .vmem S1x8x2048 .f32} {a3 : Memref sig .tc .vmem S1x8x1 .f32}
  {a4 : Memref sig .tc .vmem S1x1x8 .f32} {a5 a6 : Memref sig .tc .vmem S1x1x8 .i32}
  {a7 : Memref sig .tc .vmem S8x8x128 .f32} {a8 : Memref sig .tc .vmem S8x8x128 .i32}
  {a9 a10 : Memref sig .tc .vmem S8x1 .f32}

/-- One slot: its two buffers end at `slotS`, and what goes on is `slotO`. -/
theorem wp_slot {k : ℕ} {hk : k < 8} {S : Slots F} {o : Offer F}
    {K : FVec F S8x128 .f32 → IVec S8x128 32 → Prog (TpuEff nD τ sig (Elt F) Λ .tc) α} :
    (iprop(owns (c : Thread nD τ) a7 fullShare S.T ∗ owns (c : Thread nD τ) a8 fullShare S.I) : sProp 𝕄)
      ⊢ iprop((owns (c : Thread nD τ) a7 fullShare (slotS S o k hk).T ∗ owns (c : Thread nD τ) a8 fullShare (slotS S o k hk).I
          -∗ wp frame (wpE defs 𝒱 (c : Thread nD τ) bd) E (K (slotO S o k hk).v (slotO S o k hk).i) Q)
        -∗ wp frame (wpE defs 𝒱 (c : Thread nD τ) bd) E (slot k hk a7 a8 o.v o.i K) Q) := by
  unfold slot
  iintro ⟨H7, H8⟩ Hk
  iapply (owns_load 𝒱 (c : Thread nD τ) bd E (m := a7)) $$ H7
  iintro H7
  iapply (owns_load 𝒱 (c : Thread nD τ) bd E (m := a8)) $$ H8
  iintro H8
  iapply (owns_load 𝒱 (c : Thread nD τ) bd E (m := a7)) $$ H7
  iintro H7
  iapply (owns_store 𝒱 (c : Thread nD τ) bd E (m := a7)) $$ H7
  iintro H7
  iapply (owns_load 𝒱 (c : Thread nD τ) bd E (m := a8)) $$ H8
  iintro H8
  iapply (owns_store 𝒱 (c : Thread nD τ) bd E (m := a8)) $$ H8
  iintro H8
  iapply Hk
  isplitl [H7]
  · iexact H7
  · iexact H8

/-- The first `n` slots. -/
theorem wp_chain (n : ℕ) (hn : n ≤ 8) {S : Slots F} {o : Offer F}
    {K : FVec F S8x128 .f32 → IVec S8x128 32 → Prog (TpuEff nD τ sig (Elt F) Λ .tc) α} :
    (iprop(owns (c : Thread nD τ) a7 fullShare S.T ∗ owns (c : Thread nD τ) a8 fullShare S.I) : sProp 𝕄)
      ⊢ iprop((owns (c : Thread nD τ) a7 fullShare (chainP S o n hn).1.T ∗ owns (c : Thread nD τ) a8 fullShare (chainP S o n hn).1.I
          -∗ wp frame (wpE defs 𝒱 (c : Thread nD τ) bd) E (K (chainP S o n hn).2.v (chainP S o n hn).2.i) Q)
        -∗ wp frame (wpE defs 𝒱 (c : Thread nD τ) bd) E (chain a7 a8 n hn o.v o.i K) Q) := by
  induction n generalizing K with
  | zero =>
    unfold chain
    iintro H Hk
    iapply Hk
    iexact H
  | succ n ih =>
    unfold chain
    iintro H Hk
    iapply (ih _) $$ H
    iintro H
    iapply (wp_slot 𝒱 c bd E (S := (chainP S o n _).1) (o := (chainP S o n _).2)) $$ H
    iintro H
    iapply Hk
    iexact H

/-- An insertion. -/
theorem wp_insert {S : Slots F} {o : Offer F} {K : Prog (TpuEff nD τ sig (Elt F) Λ .tc) α} :
    (iprop(owns (c : Thread nD τ) a7 fullShare S.T ∗ owns (c : Thread nD τ) a8 fullShare S.I) : sProp 𝕄)
      ⊢ iprop((owns (c : Thread nD τ) a7 fullShare (insertS S o).T ∗ owns (c : Thread nD τ) a8 fullShare (insertS S o).I
          -∗ wp frame (wpE defs 𝒱 (c : Thread nD τ) bd) E K Q)
        -∗ wp frame (wpE defs 𝒱 (c : Thread nD τ) bd) E (insert a7 a8 o.v o.i K) Q) := by
  unfold insert
  iintro H Hk
  iapply (wp_chain 𝒱 c bd E 8 _ (S := S) (o := o)) $$ H
  iintro H
  iapply Hk
  iexact H

/-- The first `n` tiles of a block. -/
theorem wp_tiles (V : FVec F S8x2048 .f32) (C : IVec S8x2048 32) (n : ℕ) (hn : n ≤ 16) {S : Slots F}
    {K : Prog (TpuEff nD τ sig (Elt F) Λ .tc) α} :
    (iprop(owns (c : Thread nD τ) a7 fullShare S.T ∗ owns (c : Thread nD τ) a8 fullShare S.I) : sProp 𝕄)
      ⊢ iprop((owns (c : Thread nD τ) a7 fullShare (tilesS S V C n hn).T ∗ owns (c : Thread nD τ) a8 fullShare (tilesS S V C n hn).I
          -∗ wp frame (wpE defs 𝒱 (c : Thread nD τ) bd) E K Q)
        -∗ wp frame (wpE defs 𝒱 (c : Thread nD τ) bd) E (tiles a7 a8 V C n hn K) Q) := by
  induction n generalizing K with
  | zero =>
    unfold tiles
    iintro H Hk
    iapply Hk
    iexact H
  | succ n ih =>
    unfold tiles
    iintro H Hk
    iapply (ih _) $$ H
    iintro H
    iapply (wp_insert 𝒱 c bd E (o := tileOf V C n (by omega))) $$ H
    iintro H
    iapply Hk
    iexact H

/-- The first vocabulary step's block. -/
theorem wp_initBlock {μ : F .f32} {X : FVec F S8x2048 .f32} {d : Carry F} {K : Prog (TpuEff nD τ sig (Elt F) Λ .tc) α} :
    (iprop(owns (c : Thread nD τ) a7 fullShare d.S.T ∗ owns (c : Thread nD τ) a8 fullShare d.S.I
        ∗ owns (c : Thread nD τ) a9 fullShare d.m ∗ owns (c : Thread nD τ) a10 fullShare d.e) : sProp 𝕄)
      ⊢ iprop((owns (c : Thread nD τ) a7 fullShare (emptyS μ).T ∗ owns (c : Thread nD τ) a8 fullShare (emptyS μ).I
            ∗ owns (c : Thread nD τ) a9 fullShare (shapeCast S8x1 (rowMax X) cast_col : FVec F S8x1 .f32)
            ∗ owns (c : Thread nD τ) a10 fullShare (shapeCast S8x1 (extractStridedSlice S8x1 ![0, 2] X slices_eos) cast_col : FVec F S8x1 .f32)
          -∗ wp frame (wpE defs 𝒱 (c : Thread nD τ) bd) E K Q)
        -∗ wp frame (wpE defs 𝒱 (c : Thread nD τ) bd) E (initBlock μ a7 a8 a9 a10 X K) Q) := by
  unfold initBlock
  iintro ⟨H7, H8, H9, H10⟩ Hk
  iapply (owns_load 𝒱 (c : Thread nD τ) bd E (m := a10)) $$ H10
  iintro H10
  iapply (owns_store 𝒱 (c : Thread nD τ) bd E (m := a10)) $$ H10
  iintro H10
  iapply (owns_load 𝒱 (c : Thread nD τ) bd E (m := a9)) $$ H9
  iintro H9
  iapply (owns_store 𝒱 (c : Thread nD τ) bd E (m := a9)) $$ H9
  iintro H9
  iapply (owns_load 𝒱 (c : Thread nD τ) bd E (m := a7)) $$ H7
  iintro H7
  iapply (owns_store 𝒱 (c : Thread nD τ) bd E (m := a7)) $$ H7
  iintro H7
  iapply (owns_load 𝒱 (c : Thread nD τ) bd E (m := a8)) $$ H8
  iintro H8
  iapply (owns_store 𝒱 (c : Thread nD τ) bd E (m := a8)) $$ H8
  iintro H8
  rw [put_all (s := S8x8x128) zeros3, put_all (s := S8x8x128) zeros3, put_all (s := S8x1) zeros2, put_all (s := S8x1) zeros2]
  iapply Hk
  isplitl [H7]
  · iexact H7
  isplitl [H8]
  · iexact H8
  isplitl [H9]
  · iexact H9
  · iexact H10

/-- A later vocabulary step's block. -/
theorem wp_maxBlock {X : FVec F S8x2048 .f32} {m : S8x1.Idx → F .f32} {K : Prog (TpuEff nD τ sig (Elt F) Λ .tc) α} :
    (owns (c : Thread nD τ) a9 fullShare m : sProp 𝕄)
      ⊢ iprop((owns (c : Thread nD τ) a9 fullShare (shapeCast S8x1 (maximumf m (rowMax X)) cast_col : FVec F S8x1 .f32)
          -∗ wp frame (wpE defs 𝒱 (c : Thread nD τ) bd) E K Q)
        -∗ wp frame (wpE defs 𝒱 (c : Thread nD τ) bd) E (maxBlock a9 X K) Q) := by
  unfold maxBlock
  iintro H9 Hk
  iapply (owns_load 𝒱 (c : Thread nD τ) bd E (m := a9)) $$ H9
  iintro H9
  iapply (owns_load 𝒱 (c : Thread nD τ) bd E (m := a9)) $$ H9
  iintro H9
  iapply (owns_store 𝒱 (c : Thread nD τ) bd E (m := a9)) $$ H9
  iintro H9
  rw [put_all (s := S8x1) zeros2, window_all (s := S8x1) zeros2]
  iapply Hk
  iexact H9

/-- The block that closes a batch row: the slots end closed, and the three result buffers at the rows computed. -/
theorem wp_finalBlock {μ : F .f32} {b : BitVec 32} {s : S1x8x1.Idx → F .f32} {d : Carry F}
    {y4 : S1x1x8.Idx → F .f32} {y5 y6 : S1x1x8.Idx → BitVec 32} {K : Prog (TpuEff nD τ sig (Elt F) Λ .tc) α} :
    (iprop(owns (c : Thread nD τ) a7 fullShare d.S.T ∗ owns (c : Thread nD τ) a8 fullShare d.S.I
        ∗ owns (c : Thread nD τ) a9 fullShare d.m ∗ owns (c : Thread nD τ) a10 fullShare d.e
        ∗ owns (c : Thread nD τ) a4 fullShare y4 ∗ owns (c : Thread nD τ) a5 fullShare y5 ∗ owns (c : Thread nD τ) a6 fullShare y6) : sProp 𝕄)
      ⊢ iprop((owns (c : Thread nD τ) a7 fullShare (closeS μ s d).T ∗ owns (c : Thread nD τ) a8 fullShare (closeS μ s d).I
            ∗ owns (c : Thread nD τ) a9 fullShare d.m ∗ owns (c : Thread nD τ) a10 fullShare d.e
            ∗ owns (c : Thread nD τ) a4 fullShare (out0 μ (closeS μ s d)) ∗ owns (c : Thread nD τ) a5 fullShare (out1 μ (closeS μ s d))
            ∗ owns (c : Thread nD τ) a6 fullShare (out2 μ b (closeS μ s d))
          -∗ wp frame (wpE defs 𝒱 (c : Thread nD τ) bd) E K Q)
        -∗ wp frame (wpE defs 𝒱 (c : Thread nD τ) bd) E (finalBlock μ b a4 a5 a6 a7 a8 a9 a10 (seqCol s) K) Q) := by
  unfold finalBlock
  iintro ⟨H7, H8, H9, H10, H4, H5, H6⟩ Hk
  iapply (owns_load 𝒱 (c : Thread nD τ) bd E (m := a10)) $$ H10
  iintro H10
  iapply (owns_load 𝒱 (c : Thread nD τ) bd E (m := a9)) $$ H9
  iintro H9
  iapply (owns_load 𝒱 (c : Thread nD τ) bd E (m := a10)) $$ H10
  iintro H10
  rw [window_all (s := S8x1) zeros2, window_all (s := S8x1) zeros2]
  iapply (wp_insert 𝒱 c bd E (a7 := a7) (a8 := a8) (S := d.S) (o := ⟨eosTile μ d.e d.m (seqCol s), broadcast S8x128 2#32⟩)) $$ [H7 H8]
  · isplitl [H7]
    · iexact H7
    · iexact H8
  iintro ⟨H7, H8⟩
  iapply (owns_load 𝒱 (c : Thread nD τ) bd E (m := a7)) $$ H7
  iintro H7
  iapply (owns_load 𝒱 (c : Thread nD τ) bd E (m := a8)) $$ H8
  iintro H8
  rw [window_all (s := S8x8x128) zeros3, window_all (s := S8x8x128) zeros3]
  iapply (owns_load 𝒱 (c : Thread nD τ) bd E (m := a4)) $$ H4
  iintro H4
  iapply (owns_store 𝒱 (c : Thread nD τ) bd E (m := a4)) $$ H4
  iintro H4
  iapply (owns_load 𝒱 (c : Thread nD τ) bd E (m := a5)) $$ H5
  iintro H5
  iapply (owns_store 𝒱 (c : Thread nD τ) bd E (m := a5)) $$ H5
  iintro H5
  iapply (owns_load 𝒱 (c : Thread nD τ) bd E (m := a6)) $$ H6
  iintro H6
  iapply (owns_store 𝒱 (c : Thread nD τ) bd E (m := a6)) $$ H6
  iintro H6
  rw [put_all (s := S1x1x8) zeros3, put_all (s := S1x1x8) zeros3, put_all (s := S1x1x8) zeros3]
  iapply Hk
  isplitl [H7]
  · iexact H7
  isplitl [H8]
  · iexact H8
  isplitl [H9]
  · iexact H9
  isplitl [H10]
  · iexact H10
  isplitl [H4]
  · iexact H4
  isplitl [H5]
  · iexact H5
  · iexact H6

/-- The four carried buffers owned at what they hold. -/
def carried (c : Dev nD) (a7 : Memref sig .tc .vmem S8x8x128 .f32) (a8 : Memref sig .tc .vmem S8x8x128 .i32)
    (a9 a10 : Memref sig .tc .vmem S8x1 .f32) (d : Carry F) : sProp 𝕄 :=
  iprop(owns (c : Thread nD τ) a7 fullShare d.S.T ∗ owns (c : Thread nD τ) a8 fullShare d.S.I
    ∗ owns (c : Thread nD τ) a9 fullShare d.m ∗ owns (c : Thread nD τ) a10 fullShare d.e)

/-- The whole body: the carried buffers end at `stepC`, and at the last vocabulary step the result buffers at the rows
    computed from the closed slots. -/
theorem wp_step {μ : F .f32} {b v : BitVec 32} {x : S1x8x2048.Idx → F .f32} {s : S1x8x1.Idx → F .f32} {d : Carry F}
    {y4 : S1x1x8.Idx → F .f32} {y5 y6 : S1x1x8.Idx → BitVec 32} {Q : PUnit → sProp (MT nD τ sig Ix (Elt F) Name U Lvl)} :
    (iprop(owns (c : Thread nD τ) a2 fullShare x ∗ owns (c : Thread nD τ) a3 fullShare s
        ∗ owns (c : Thread nD τ) a4 fullShare y4 ∗ owns (c : Thread nD τ) a5 fullShare y5 ∗ owns (c : Thread nD τ) a6 fullShare y6
        ∗ carried c a7 a8 a9 a10 d) : sProp 𝕄)
      ⊢ iprop((owns (c : Thread nD τ) a2 fullShare x ∗ owns (c : Thread nD τ) a3 fullShare s
            ∗ owns (c : Thread nD τ) a4 fullShare (if last v = 1#1 then out0 μ (stepC μ v x s d).S else y4)
            ∗ owns (c : Thread nD τ) a5 fullShare (if last v = 1#1 then out1 μ (stepC μ v x s d).S else y5)
            ∗ owns (c : Thread nD τ) a6 fullShare (if last v = 1#1 then out2 μ b (stepC μ v x s d).S else y6)
            ∗ carried c a7 a8 a9 a10 (stepC μ v x s d)
          -∗ wp frame (wpE defs 𝒱 (c : Thread nD τ) bd) E (.ret ⟨⟩) Q)
        -∗ wp frame (wpE defs 𝒱 (c : Thread nD τ) bd) E (step μ b v a2 a3 a4 a5 a6 a7 a8 a9 a10) Q) := by
  unfold step carried
  iintro ⟨H2, H3, H4, H5, H6, H7, H8, H9, H10⟩ Hk
  iapply (owns_load 𝒱 (c : Thread nD τ) bd E (m := a2)) $$ H2
  iintro H2
  iapply (owns_load 𝒱 (c : Thread nD τ) bd E (m := a3)) $$ H3
  iintro H3
  rw [window_all (s := S1x8x2048) zeros3, window_all (s := S1x8x1) zeros3]
  have rest : (iprop(owns (c : Thread nD τ) a2 fullShare x ∗ owns (c : Thread nD τ) a3 fullShare s
        ∗ owns (c : Thread nD τ) a4 fullShare y4 ∗ owns (c : Thread nD τ) a5 fullShare y5 ∗ owns (c : Thread nD τ) a6 fullShare y6
        ∗ owns (c : Thread nD τ) a7 fullShare (headC μ v (masked μ v x) d).S.T ∗ owns (c : Thread nD τ) a8 fullShare (headC μ v (masked μ v x) d).S.I
        ∗ owns (c : Thread nD τ) a9 fullShare (headC μ v (masked μ v x) d).m ∗ owns (c : Thread nD τ) a10 fullShare (headC μ v (masked μ v x) d).e) : sProp 𝕄)
      ⊢ iprop((owns (c : Thread nD τ) a2 fullShare x ∗ owns (c : Thread nD τ) a3 fullShare s
            ∗ owns (c : Thread nD τ) a4 fullShare (if last v = 1#1 then out0 μ (stepC μ v x s d).S else y4)
            ∗ owns (c : Thread nD τ) a5 fullShare (if last v = 1#1 then out1 μ (stepC μ v x s d).S else y5)
            ∗ owns (c : Thread nD τ) a6 fullShare (if last v = 1#1 then out2 μ b (stepC μ v x s d).S else y6)
            ∗ owns (c : Thread nD τ) a7 fullShare (stepC μ v x s d).S.T ∗ owns (c : Thread nD τ) a8 fullShare (stepC μ v x s d).S.I
            ∗ owns (c : Thread nD τ) a9 fullShare (stepC μ v x s d).m ∗ owns (c : Thread nD τ) a10 fullShare (stepC μ v x s d).e
          -∗ wp frame (wpE defs 𝒱 (c : Thread nD τ) bd) E (.ret ⟨⟩) Q)
        -∗ wp frame (wpE defs 𝒱 (c : Thread nD τ) bd) E
          (tiles a7 a8 (scoreBlock μ v (masked μ v x) (seqCol s)) (cols v) 16 (by decide)
            (if last v = 1#1 then finalBlock μ b a4 a5 a6 a7 a8 a9 a10 (seqCol s) (.ret ⟨⟩) else .ret ⟨⟩)) Q) := by
    iintro ⟨H2, H3, H4, H5, H6, H7, H8, H9, H10⟩ Hk
    iapply (wp_tiles 𝒱 c bd E (a7 := a7) (a8 := a8) (S := (headC μ v (masked μ v x) d).S) _ _ 16 _) $$ [H7 H8]
    · isplitl [H7]
      · iexact H7
      · iexact H8
    iintro ⟨H7, H8⟩
    by_cases hl : last v = 1#1
    · have e : stepC μ v x s d = { bodyC μ v x s d with S := closeS μ s (bodyC μ v x s d) } := by
        unfold stepC; exact if_pos hl
      rw [if_pos hl, if_pos hl, if_pos hl, if_pos hl, e]
      iapply (wp_finalBlock 𝒱 c bd E (d := bodyC μ v x s d) (y4 := y4) (y5 := y5) (y6 := y6)) $$ [H4 H5 H6 H7 H8 H9 H10]
      · isplitl [H7]
        · iexact H7
        isplitl [H8]
        · iexact H8
        isplitl [H9]
        · iexact H9
        isplitl [H10]
        · iexact H10
        isplitl [H4]
        · iexact H4
        isplitl [H5]
        · iexact H5
        · iexact H6
      iintro ⟨H7, H8, H9, H10, H4, H5, H6⟩
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      · iexact H10
    · have e : stepC μ v x s d = bodyC μ v x s d := by
        unfold stepC; exact if_neg hl
      rw [if_neg hl, if_neg hl, if_neg hl, if_neg hl, e]
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      · iexact H10
  by_cases hf : first v = 1#1
  · rw [if_pos hf]
    iapply (wp_initBlock 𝒱 c bd E (d := d)) $$ [H7 H8 H9 H10]
    · isplitl [H7]
      · iexact H7
      isplitl [H8]
      · iexact H8
      isplitl [H9]
      · iexact H9
      · iexact H10
    iintro ⟨H7, H8, H9, H10⟩
    by_cases hr : later v = 1#1
    · rw [if_pos hr]
      iapply (wp_maxBlock 𝒱 c bd E (a9 := a9)) $$ H9
      iintro H9
      have e : headC μ v (masked μ v x) d = ⟨emptyS μ, shapeCast S8x1 (maximumf (shapeCast S8x1 (rowMax (masked μ v x)) cast_col) (rowMax (masked μ v x))) cast_col,
          shapeCast S8x1 (extractStridedSlice S8x1 ![0, 2] (masked μ v x) slices_eos) cast_col⟩ := by
        unfold headC; simp only [if_pos hf, if_pos hr]
      rw [e] at rest
      iapply rest $$ [H2 H3 H4 H5 H6 H7 H8 H9 H10]
      · iframe
      iexact Hk
    · rw [if_neg hr]
      have e : headC μ v (masked μ v x) d = ⟨emptyS μ, shapeCast S8x1 (rowMax (masked μ v x)) cast_col,
          shapeCast S8x1 (extractStridedSlice S8x1 ![0, 2] (masked μ v x) slices_eos) cast_col⟩ := by
        unfold headC; simp only [if_pos hf, if_neg hr]
      rw [e] at rest
      iapply rest $$ [H2 H3 H4 H5 H6 H7 H8 H9 H10]
      · iframe
      iexact Hk
  · rw [if_neg hf]
    by_cases hr : later v = 1#1
    · rw [if_pos hr]
      iapply (wp_maxBlock 𝒱 c bd E (a9 := a9)) $$ H9
      iintro H9
      have e : headC μ v (masked μ v x) d = ⟨d.S, shapeCast S8x1 (maximumf d.m (rowMax (masked μ v x))) cast_col, d.e⟩ := by
        unfold headC; simp only [if_neg hf, if_pos hr]
      rw [e] at rest
      iapply rest $$ [H2 H3 H4 H5 H6 H7 H8 H9 H10]
      · iframe
      iexact Hk
    · rw [if_neg hr]
      have e : headC μ v (masked μ v x) d = d := by
        unfold headC; simp only [if_neg hf, if_neg hr]
      rw [e] at rest
      iapply rest $$ [H2 H3 H4 H5 H6 H7 H8 H9 H10]
      · iframe
      iexact Hk

end Wp

end Cert.Beam
-- ==== Proof.Reads.lean ====
/-
  The body's values read at one place: the block's column numbers, the mask past the vocabulary, the questions asked of
  the vocabulary step, and what the first vocabulary step forgets.
-/
module

public import proofs.«01_k».proof.Proof.Triple
public import Idealize.ShloMosaic.Lib.Pointwise
public import Idealize.ShloMosaic.Lib.WordCmp

@[expose] public section

noncomputable section

namespace Cert.Beam

open Idealize.ShloMosaic

section Words

/-- The vocabulary step is the first. -/
theorem first_iff (n : ℕ) (hn : n < 49) : first (BitVec.ofNat 32 n) = 1#1 ↔ n = 0 := by
  have : ∀ k : Fin 49, first (BitVec.ofNat 32 k.val) = 1#1 ↔ k.val = 0 := by decide
  exact this ⟨n, hn⟩
/-- The vocabulary step is a later one. -/
theorem later_iff (n : ℕ) (hn : n < 49) : later (BitVec.ofNat 32 n) = 1#1 ↔ n ≠ 0 := by
  have : ∀ k : Fin 49, later (BitVec.ofNat 32 k.val) = 1#1 ↔ k.val ≠ 0 := by decide
  exact this ⟨n, hn⟩
/-- The vocabulary step is the last. -/
theorem last_iff (n : ℕ) (hn : n < 49) : last (BitVec.ofNat 32 n) = 1#1 ↔ n = 48 := by
  have : ∀ k : Fin 49, last (BitVec.ofNat 32 k.val) = 1#1 ↔ k.val = 48 := by decide
  exact this ⟨n, hn⟩

end Words

variable {F : FTy → Type} [FloatOps F]

/-- The column number at a place of the block. -/
theorem cols_at (n : ℕ) (r : Fin 8) (l : Fin 2048) :
    cols (BitVec.ofNat 32 n) (ix2 r l) = BitVec.ofNat 32 (2048 * n + l.val) := by
  unfold cols
  pointwise
  simp only [IntOp.addi, Scalar.muli, IntOp.muli]
  apply BitVec.eq_of_toNat_eq
  simp only [BitVec.toNat_add, BitVec.toNat_mul, BitVec.toNat_ofNat]
  omega

/-- A masked block at a place: the block inside the vocabulary, the mask outside. -/
theorem masked_at (μ : F .f32) (n : ℕ) (hn : n < 49) (x : Vec F S1x8x2048 .f32) (r : Fin 8) (l : Fin 2048) :
    masked μ (BitVec.ofNat 32 n) x (ix2 r l) = if 2048 * n + l.val < 100000 then x (ix3 0 r l) else μ := by
  unfold masked
  have hl := l.isLt
  pointwise
  rw [cols_at, show (100000#32) = BitVec.ofNat 32 100000 from rfl, WordCmp.cmpi_slt_ofNat (by omega) (by omega)]
  by_cases h : 2048 * n + l.val < 100000
  · rw [if_pos h]; simp [h, Scalar.select]
  · rw [if_neg h]; simp [h, Scalar.select]

/-- Blocks that agree inside the vocabulary are masked alike. -/
theorem masked_congr (μ : F .f32) (n : ℕ) (hn : n < 49) (x y : Vec F S1x8x2048 .f32)
    (h : ∀ (r : Fin 8) (l : Fin 2048), 2048 * n + l.val < 100000 → x (ix3 0 r l) = y (ix3 0 r l)) :
    masked μ (BitVec.ofNat 32 n) x = masked μ (BitVec.ofNat 32 n) y := by
  funext j
  obtain ⟨r, l, rfl⟩ : ∃ (r : Fin 8) (l : Fin 2048), j = ix2 r l := ⟨j 0, j 1, eq_ix2 j⟩
  rw [masked_at μ n hn, masked_at μ n hn]
  split
  · exact h r l ‹_›
  · rfl

/-- The body's result depends on the block only through what is masked. -/
theorem stepC_congr (μ : F .f32) (v : BitVec 32) (x y : S1x8x2048.Idx → F .f32) (s : S1x8x1.Idx → F .f32) (c : Carry F)
    (h : masked μ v x = masked μ v y) : stepC μ v x s c = stepC μ v y s c := by
  unfold stepC bodyC; rw [h]

/-- The first vocabulary step starts afresh. -/
theorem stepC_first (μ : F .f32) (x : S1x8x2048.Idx → F .f32) (s : S1x8x1.Idx → F .f32) (c d : Carry F) :
    stepC μ (BitVec.ofNat 32 0) x s c = stepC μ (BitVec.ofNat 32 0) x s d := by
  have h1 : first (BitVec.ofNat 32 0) = 1#1 := by decide
  have h2 : ∀ X : FVec F S8x2048 .f32, headC μ (BitVec.ofNat 32 0) X c = headC μ (BitVec.ofNat 32 0) X d := fun X => by
    unfold headC
    simp only [if_pos h1]
  unfold stepC bodyC
  rw [h2]

end Cert.Beam
-- ==== Proof.BodyIdeal.lean ====
/-
  The printed body of `KernelIdeal` is the body of Step.lean at the named mask.
-/
module

public import proofs.«01_k».proof.KernelIdeal
public import proofs.«01_k».proof.Proof.Step

@[expose] public section

noncomputable section

namespace Cert.KernelIdeal

open Idealize.ShloMosaic
open Idealize.SL.Sem

variable {F : FTy → Type} [FloatOps F] [Named F] [Facts]

set_option maxRecDepth 100000 in
/-- The printed body's first stretch, with what follows it as an argument: the two loads, the two conditional blocks,
    and the first two loads of the first tile's first slot. -/
theorem part11_bind {α : Type} (i : grid0.Coords) (arg2) (h2) (arg3) (h3) (arg4) (h4) (arg5) (h5) (arg6) (h6) (arg7) (h7) (arg8) (h8) (arg9) (h9) (arg10) (h10)
    (K : _ → Prog _ α) :
    (k0_part11 (F := F) i arg2 h2 arg3 h3 arg4 h4 arg5 h5 arg6 h6 arg7 h7 arg8 h8 arg9 h9 arg10 h10).bind K
      = .op (.load arg2 (Rect.unit (s := S1x8x2048) ![0, 0, 0] S1x8x2048.size Beam.inb_block).toLoadRect (View.loadsAt_vmem Beam.pos_block)) fun x =>
        .op (.load arg3 (Rect.unit (s := S1x8x1) ![0, 0, 0] S1x8x1.size Beam.inb_seq).toLoadRect (View.loadsAt_vmem Beam.pos_seq)) fun s =>
        let μ : F .f32 := Named.named κ "mask" 0xF149F2CA#32
        let v : BitVec 32 := BitVec.ofNat 32 (i 1).val
        let X := Beam.masked μ v x
        let rest :=
          .op (.load arg7 (Rect.unit (s := S8x8x128) ![0, 0, 0] S1x8x128.size (Beam.inb_slot 0 (by decide))).toLoadRect (View.loadsAt_vmem Beam.pos_slot)) fun t =>
          .op (.load arg8 (Rect.unit (s := S8x8x128) ![0, 0, 0] S1x8x128.size (Beam.inb_slot 0 (by decide))).toLoadRect (View.loadsAt_vmem Beam.pos_slot)) fun u =>
          let V := Beam.scoreBlock μ v X (Beam.seqCol s)
          let val := extractStridedSlice S8x128 ![0, 0] V (Beam.slices_tile 0 (by decide))
          let c : FVec F S8x128 .f32 := shapeCast S8x128 t Beam.cast_slot
          K ⟨BitVec.ofNat 32 (i 0).val, v, Beam.seqCol s, Beam.cols v, V, val,
            extractStridedSlice S8x128 ![0, 0] (Beam.cols v) (Beam.slices_tile 0 (by decide)), c, shapeCast S8x128 u Beam.cast_slot,
            cmpf .ogt val c, select (cmpf .ogt val c) val c⟩
        let mid := if Beam.later v = 1#1 then Beam.maxBlock arg9 X rest else rest
        if Beam.first v = 1#1 then Beam.initBlock μ arg7 arg8 arg9 arg10 X mid else mid := by
  by_cases c1 : Scalar.cmpi .ne (Scalar.extui (Scalar.cmpi .eq (BitVec.ofNat 32 (i 1).val) 0#32) : BitVec 32) 0#32 = 1#1 <;>
  by_cases c2 : Scalar.cmpi .ne (Scalar.extui (Scalar.cmpi .sgt (BitVec.ofNat 32 (i 1).val) 0#32) : BitVec 32) 0#32 = 1#1
  all_goals
    unfold k0_part11 Beam.first Beam.later
    simp only [dif_pos, dif_neg, if_pos, if_neg, c1, c2, not_false_eq_true]
    rfl

set_option maxRecDepth 100000 in
set_option maxHeartbeats 40000000 in
/-- The printed body is `Beam.step` at the named mask. -/
theorem step_eq (i : grid0.Coords) (arg2) (h2) (arg3) (h3) (arg4) (h4) (arg5) (h5) (arg6) (h6) (arg7) (h7) (arg8) (h8) (arg9) (h9) (arg10) (h10) :
    cc0__step (F := F) i arg2 h2 arg3 h3 arg4 h4 arg5 h5 arg6 h6 arg7 h7 arg8 h8 arg9 h9 arg10 h10
      = Beam.step (Named.named κ "mask" 0xF149F2CA#32) (BitVec.ofNat 32 (i 0).val) (BitVec.ofNat 32 (i 1).val)
          arg2 arg3 arg4 arg5 arg6 arg7 arg8 arg9 arg10 := by
  unfold cc0__step k0_part73
  show ((k0_part11 i arg2 h2 arg3 h3 arg4 h4 arg5 h5 arg6 h6 arg7 h7 arg8 h8 arg9 h9 arg10 h10).bind _).bind _ = _
  rw [Beam.bind_assoc, part11_bind]
  unfold Beam.step
  refine Beam.op_congr fun x => Beam.op_congr fun s => ?_
  refine congrArg (fun mid => if Beam.first (BitVec.ofNat 32 (i 1).val) = 1#1
    then Beam.initBlock (Named.named κ "mask" 0xF149F2CA#32) arg7 arg8 arg9 arg10 (Beam.masked (Named.named κ "mask" 0xF149F2CA#32) (BitVec.ofNat 32 (i 1).val) x) mid
    else mid) ?_
  refine congrArg (fun rest => if Beam.later (BitVec.ofNat 32 (i 1).val) = 1#1
    then Beam.maxBlock arg9 (Beam.masked (Named.named κ "mask" 0xF149F2CA#32) (BitVec.ofNat 32 (i 1).val) x) rest else rest) ?_
  generalize Beam.scoreBlock (F := F) _ _ _ _ = V
  generalize Beam.seqCol (F := F) s = sc
  generalize hC : Beam.cols _ = C
  iterate 768 (refine Beam.op_congr fun _ => ?_)
  by_cases c3 : k0_cond3 i = 1#1
  · refine (dif_pos (c := k0_cond3 i = 1#1) c3).trans (Eq.trans ?_ (if_pos (c := Beam.last (BitVec.ofNat 32 (i 1).val) = 1#1) c3).symm)
    iterate 59 (refine Beam.op_congr fun _ => ?_)
    rfl
  · exact (dif_neg (c := k0_cond3 i = 1#1) c3).trans (if_neg (c := Beam.last (BitVec.ofNat 32 (i 1).val) = 1#1) c3).symm

end Cert.KernelIdeal
-- ==== Proof.DataIdeal.lean ====
/-
  The proof data of the pipeline of the kernel with its mask named: what the carried buffers hold before every grid
  point, what the body leaves in the staging buffers, and the run of the whole program.
-/
module

public import proofs.«01_k».proof.Proof.Reads
public import proofs.«01_k».proof.Proof.BodyIdeal
public import proofs.«01_k».proof.Proof.Gen.KernelIdeal.Frame

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The value of the mask. -/
abbrev mask : F .f32 := Named.named κ "mask" 0xF149F2CA#32

/-- The vocabulary step of point `t`. -/
theorem coord_v (t : Fin cfg0.N) : (grid0.coords t 1).val = t.val % 49 := by
  rw [Pipeline.Grid.coords_val (G := grid0) t 1 (S := 1) (B := 49) (by decide) rfl, Nat.div_one]

/-- The batch row of point `t`. -/
theorem coord_b (t : Fin cfg0.N) : (grid0.coords t 0).val = t.val / 49 := by
  have : t.val < 1568 := lt_of_lt_of_eq t.isLt N_0
  rw [Pipeline.Grid.coords_val (G := grid0) t 0 (S := 49) (B := 32) (by decide) rfl]
  omega

/-- The log-probabilities' block at point `t`, a zero word outside the array. -/
def xblk (c : Dev nD) (t : Fin cfg0.N) : S1x8x2048.Idx → F .f32 :=
  win0_0.fill (grid0.coords t) (fun _ => Scalar.ofBits .f32 0#32) (iblk m c 0 t)
/-- The sequence scores' block at point `t`. -/
def sblk (c : Dev nD) (t : Fin cfg0.N) : S1x8x1.Idx → F .f32 := iblk m c 1 t

/-- What the carried buffers hold before point `n`, for a row begun earlier. -/
def state (c : Dev nD) : ℕ → Beam.Carry F
  | 0 => ⟨Beam.emptyS mask, fun _ => mask, fun _ => mask⟩
  | n + 1 => if h : n < cfg0.N then
      Beam.stepC mask (BitVec.ofNat 32 (grid0.coords ⟨n, h⟩ 1).val) (xblk m c ⟨n, h⟩) (sblk m c ⟨n, h⟩) (state c n)
    else state c n

/-- What they hold after point `t`. -/
theorem state_succ (c : Dev nD) (t : Fin cfg0.N) : state m c (t.val + 1)
    = Beam.stepC mask (BitVec.ofNat 32 (grid0.coords t 1).val) (xblk m c t) (sblk m c t) (state m c t.val) := by
  rw [state, dif_pos t.isLt]

/-- The carried buffers at point `t`: at the first point anything, later what the points before left. -/
def inv (c : Dev nD) (t : Fin (cfg0.N + 1)) : sProp 𝕄 :=
  iprop((∃ d, ⌜t.val = 0 ∨ d = state m c t.val⌝
      ∗ Beam.carried c (Memref.whole cc0_scratch0) (Memref.whole cc0_scratch1) (Memref.whole cc0_scratch2) (Memref.whole cc0_scratch3) d)
    ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => sblk m c t
    | ⟨2, _⟩ => Beam.out0 mask (state m c (t.val + 1)).S
    | ⟨3, _⟩ => Beam.out1 mask (state m c (t.val + 1)).S
    | ⟨4, _⟩ => Beam.out2 mask (BitVec.ofNat 32 (grid0.coords t 0).val) (state m c (t.val + 1)).S
  Φ t := inv m c t
  q _ := fullShare
  owed _ := 0

/-- No variants are needed. -/
abbrev 𝒱₀ : Variants := Variants.none

/-- The log-probabilities' buffer as the body finds it. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl
/-- The sequence scores' buffer as the body finds it. -/
theorem before_1 (c : Dev nD) (t : Fin cfg0.N) (d) : (dats m 0 c).before (1 : Fin 5) t d = sblk m c t :=
  before0_1_of m (dats m 0 c) rfl (fun _ => rfl) t d

/-- The part of the block inside the array reaches the vocabulary's end. -/
theorem moved (t : Fin cfg0.N) (r : Fin 8) (l : Fin 2048) (h : 2048 * (grid0.coords t 1).val + l.val < 100000) :
    win0_0.moved (grid0.coords t) (ix3 0 r l) = true := by
  have hv : (grid0.coords t 1).val < 49 := (grid0.coords t 1).isLt
  rw [win0_0.moved_iff]
  intro a
  match a with
  | ⟨0, _⟩ =>
    show 0 < (Pipeline.Clip.of ((BitVec.ofNat 32 (grid0.coords t 0).val).toNat) 1 32).extent 1
    have : (grid0.coords t 0).val < 32 := (grid0.coords t 0).isLt
    unfold Pipeline.Clip.of
    rw [if_pos (by rw [BitVec.toNat_ofNat]; omega)]
    decide
  | ⟨1, _⟩ => exact r.isLt
  | ⟨2, _⟩ =>
    show l.val < (Pipeline.Clip.of ((BitVec.ofNat 32 (grid0.coords t 1).val).toNat) 2048 100000).extent 2048
    unfold Pipeline.Clip.of
    rw [BitVec.toNat_ofNat, Nat.mod_eq_of_lt (by omega)]
    split
    · exact l.isLt
    · show l.val < 100000 - (grid0.coords t 1).val * 2048
      omega

/-- What lies past the array's end is masked. -/
theorem masked_fill (c : Dev nD) (t : Fin cfg0.N) (d : S1x8x2048.Idx → F .f32) :
    Beam.masked mask (BitVec.ofNat 32 (grid0.coords t 1).val) (win0_0.fill (grid0.coords t) d (iblk m c 0 t))
      = Beam.masked mask (BitVec.ofNat 32 (grid0.coords t 1).val) (xblk m c t) := by
  refine Beam.masked_congr _ _ (grid0.coords t 1).isLt _ _ fun r l h => ?_
  unfold xblk Pipeline.Window.fill
  rw [dif_pos (moved t r l h), dif_pos (moved t r l h)]

/-- What the body leaves in the carried buffers, whatever lies past the array's end and, at the first point, whatever
    they held. -/
theorem step_state (c : Dev nD) (t : Fin cfg0.N) (x : S1x8x2048.Idx → F .f32) (e : Beam.Carry F) (h : t.val = 0 ∨ e = state m c t.val) :
    Beam.stepC mask (BitVec.ofNat 32 (grid0.coords t 1).val) (win0_0.fill (grid0.coords t) x (iblk m c 0 t)) (sblk m c t) e
      = state m c (t.val + 1) := by
  rw [state_succ, Beam.stepC_congr _ _ _ _ _ _ (masked_fill m c t x)]
  rcases h with h | rfl
  · rw [coord_v, h]
    exact Beam.stepC_first _ _ _ _ _
  · rfl

/-- The question the body asks before it closes a row. -/
theorem last_point (t : Fin cfg0.N) : Beam.last (BitVec.ofNat 32 (grid0.coords t 1).val) = 1#1 ↔ t.val % 49 = 48 := by
  rw [Beam.last_iff _ (grid0.coords t 1).isLt, coord_v]

/-- An output is left alone exactly where no row is closed. -/
theorem idle_iff (t : Fin cfg0.N) : (!(k0_cond3 (grid0.coords t) == 1#1)) = true ↔ t.val % 49 ≠ 48 := by
  have h := last_point t
  show (!(Beam.last (BitVec.ofNat 32 (grid0.coords t 1).val) == 1#1)) = true ↔ _
  simpa using not_congr h

/-- The body at every point: it finds the blocks and the carried buffers and leaves them at the next state, the results
    stored where a row is closed. -/
theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl]
  show iprop(inv m c t.castSucc ∗ _ ∗ _) ⊢ wp frame (wpE (defs₀ (F := F)) 𝒱₀ (c : Thread nD τ) none) Set.univ (bodyAt0 t) _
  unfold bodyAt0
  rw [step_eq]
  unfold inv
  iintro ⟨⟨⟨%e, %he, HC⟩, Hr⟩, Ho, ⟨%d0, H0⟩, ⟨%d1, H1⟩, ⟨%d2, H2⟩, ⟨%d3, H3⟩, ⟨%d4, H4⟩⟩
  rw [before_0 m c t d0, before_1 m c t d1]
  have hs := step_state m c t d0 e he
  have hl := last_point t
  iapply (Beam.wp_step 𝒱₀ c none Set.univ (d := e)) $$ [HC H0 H1 H2 H3 H4]
  · isplitl [H0]; · iexact H0
    isplitl [H1]; · iexact H1
    isplitl [H2]; · iexact H2
    isplitl [H3]; · iexact H3
    isplitl [H4]; · iexact H4
    iexact HC
  rw [hs]
  iintro ⟨H0, H1, H2, H3, H4, HC⟩
  rw [wp_ret]
  imodintro
  have hx : win0_0.cut (grid0.coords t) (xblk m c t) = iblk m c 0 t := win0_0.cut_fill _ _ _
  isplitl [HC Hr]
  · rw [show (dats m 0 c).Φ t.succ = inv m c t.succ from rfl]
    unfold inv
    isplitl [HC]
    · iexists (state m c (t.val + 1))
      isplitr; · ipureintro; exact .inr rfl
      iexact HC
    iexact Hr
  isplitl [Ho]; · iexact Ho
  isplitl [H0]
  · iexists d0
    rw [show (win0 0).cut (grid0.coords t) ((dats m 0 c).after 0 t) = iblk m c 0 t from hx]
    iexact H0
  isplitl [H1]; · iexact H1
  by_cases ht : t.val % 49 = 48
  · have hid : (!(k0_cond3 (grid0.coords t) == 1#1)) = false := by
      rw [← Bool.not_eq_true, idle_iff]; exact fun h => h ht
    rw [show idle0 2 (grid0.coords t) = false from hid, if_pos (hl.2 ht), if_pos (hl.2 ht), if_pos (hl.2 ht)]
    isplitl [H2]; · iexact H2
    isplitl [H3]; · iexact H3
    iexact H4
  · have hid := (idle_iff t).2 ht
    rw [show idle0 2 (grid0.coords t) = true from hid, if_neg (mt hl.1 ht), if_neg (mt hl.1 ht), if_neg (mt hl.1 ht),
      show (win0 2).flush t = false from Bool.eq_false_iff.2 (mt (flush0_2 t).1 ht),
      show (win0 3).flush t = false from Bool.eq_false_iff.2 (mt (flush0_3 t).1 ht),
      show (win0 4).flush t = false from Bool.eq_false_iff.2 (mt (flush0_4 t).1 ht)]
    isplitl [H2]; · iexists d2; iexact H2
    isplitl [H3]; · iexists d3; iexact H3
    iexists d4; iexact H4

/-- The state's start: the buffers hold anything. -/
theorem inv_first (c : Dev nD) : (Pipeline.ΦA spec0 c : sProp 𝕄) ⊢ inv m c 0 := by
  unfold Pipeline.ΦA inv
  rw [scopedRest0_eq]
  iintro ⟨⟨⟨%f0, H0⟩, ⟨%f1, H1⟩, ⟨%f2, H2⟩, ⟨%f3, H3⟩⟩, Hr⟩
  isplitl [H0 H1 H2 H3]
  · iexists (⟨⟨f0, f1⟩, f2, f3⟩ : Beam.Carry F)
    isplitr; · ipureintro; exact .inl rfl
    unfold Beam.carried
    simp only [owns_whole_eq]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    · iexists f3; isplitr; · ipureintro; rfl
      iexact H3
  · iexact Hr

/-- The state's end: what the buffers hold is forgotten. -/
theorem inv_last (c : Dev nD) : inv m c (Fin.last cfg0.N) ⊢ (Pipeline.ΦA spec0 c : sProp 𝕄) := by
  unfold Pipeline.ΦA inv
  rw [scopedRest0_eq]
  unfold Beam.carried
  simp only [owns_whole_eq]
  iintro ⟨⟨%d, %_, ⟨%f0, %_, H0⟩, ⟨%f1, %_, H1⟩, ⟨%f2, %_, H2⟩, ⟨%f3, %_, H3⟩⟩, Hr⟩
  isplitl [H0 H1 H2 H3]
  · isplitl [H0]; · iexists f0; iexact H0
    isplitl [H1]; · iexists f1; iexact H1
    isplitl [H2]; · iexists f2; iexact H2
    iexists f3; iexact H3
  · iexact Hr

set_option backward.isDefEq.respectTransparency.types false in
/-- The run of the whole program from any memory with zero counters: it ends, every array of the pipeline at what the
    write-backs leave, every other buffer at what the host's lines leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hin := inv_first m) (hout := inv_last m)
    (Q' := fun r => Pipeline.FramePost cfgs (dats m) 0 (Pipeline.afterTail₀ cfgs (dats m) 0 (V0 m) [hostOps1]) r ∧ r.2.sem = fun _ => 0)
    (hQ' := fun _ h => h)

/-- The frame: the program ends with its arguments as launched and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩)
    (run_main m ρ)

end Cert.KernelIdeal
-- ==== Proof.Frames.lean ====
/-
  The claims that need no value: every program ends with its arguments unchanged and every counter at zero, and the
  kernel's mask stands for minus infinity.
-/
module

public import proofs.«01_k».proof.Defs
public import proofs.«01_k».proof.Proof.DataKernel
public import proofs.«01_k».proof.Proof.DataIdeal
public import proofs.«01_k».proof.Proof.Gen.ReferenceIdeal.Run
public import Idealize.ShloMosaic.Lib.Quiescent

@[expose] public section

noncomputable section

namespace Cert.Beam

open Idealize.ShloMosaic Idealize.SL.Sem

/-- The kernel's frame. -/
theorem frame_kernel : Cert.quiescent_Kernel := fun m ρ _ => Cert.Kernel.frame_args m ρ
/-- The frame of the kernel over the extended reals. -/
theorem frame_ideal : Cert.quiescent_KernelIdeal := fun m ρ _ => Cert.KernelIdeal.frame_args m ρ
/-- The frame of the reference over the extended reals. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)
/-- The mask is named minus infinity. -/
theorem mask_named : Cert.preserves_Kernel_KernelIdeal :=
  IdealRules.named_const.statement Cert.KernelIdeal.κ "mask" .f32 0xF149F2CA#32 ⊥ rfl

end Cert.Beam

end
-- ==== Proof.Casts.lean ====
/-
  The arguments by batch, and the reshapes that split rows among batches or join the rows of a batch.
-/
module

public import Idealize.ShloMosaic.Lib.Pointwise
public import Idealize.ShloMosaic.Lib.Pipeline.Value
public import Idealize.ShloMosaic.PureOps.Ideal

@[expose] public section

noncomputable section

namespace Cert.Beam

open Idealize.ShloMosaic

/-- The log-probability of column `k` of beam `r` of batch `b`. -/
def lpRow (A : FVec Ideal ⟨2, ![256, 100000]⟩ .f32) (b : Fin 32) (r : Fin 8) (k : ℕ) : EReal :=
  if h : k < 100000 then A (ix2 ⟨b.val * 8 + r.val, by omega⟩ ⟨k, h⟩) else ⊥

/-- The sequence score of beam `r` of batch `b`. -/
def sqRow (B : FVec Ideal ⟨1, ![256]⟩ .f32) (b : Fin 32) (r : Fin 8) : EReal := B (ix1 ⟨b.val * 8 + r.val, by omega⟩)

variable {α : Type}

/-- A result: a word per batch and place. -/
def flatRows (G : Fin 32 → Fin 8 → α) : (⟨2, ![32, 8]⟩ : Shape).Idx → α := fun i => G (i 0) (i 1)

/-- A beam's row number. -/
theorem row_lt {p q a : ℕ} (ha : a = p * q) (b : Fin p) (r : Fin q) : b.val * q + r.val < a := by
  have h : (b.val + 1) * q ≤ p * q := Nat.mul_le_mul_right q b.isLt
  rw [Nat.add_mul, Nat.one_mul] at h
  have := r.isLt
  omega

/-- A column cut out of an array. -/
theorem column_at {a n p : ℕ} (hp : p < n) (x : (⟨2, ![a, n]⟩ : Shape).Idx → α) (h : (⟨2, ![a, n]⟩ : Shape).Slices ![0, p] ⟨2, ![a, 1]⟩)
    (r : Fin a) : extractStridedSlice ⟨2, ![a, 1]⟩ ![0, p] x h (ix2 r 0) = x (ix2 r ⟨p, hp⟩) :=
  extractStridedSlice_apply ![0, p] x h _ _ fun b => match b with
    | ⟨0, _⟩ => (Nat.zero_add _).symm
    | ⟨1, _⟩ => rfl

/-- A column cut out of an array, without its unit axis. -/
theorem column_flat {a n p : ℕ} (hp : p < n) (x : (⟨2, ![a, n]⟩ : Shape).Idx → α) (h : (⟨2, ![a, n]⟩ : Shape).Slices ![0, p] ⟨2, ![a, 1]⟩)
    (h' : (⟨2, ![a, 1]⟩ : Shape).ShapeCasts ⟨1, ![a]⟩) (r : Fin a) :
    shapeCast ⟨1, ![a]⟩ (extractStridedSlice ⟨2, ![a, 1]⟩ ![0, p] x h) h' (ix1 r) = x (ix2 r ⟨p, hp⟩) := by
  refine (shapeCast_apply _ h' _ (ix2 r 0) ?_).trans (column_at hp x h r)
  rw [rowMajor_val1, rowMajor_val2 _ 1 rfl]
  show r.val * 1 + 0 = r.val
  omega

/-- Rows split among batches. -/
theorem split_rows {p q a n : ℕ} (ha : a = p * q) (x : (⟨2, ![a, n]⟩ : Shape).Idx → α)
    (h : (⟨2, ![a, n]⟩ : Shape).ShapeCasts ⟨3, ![p, q, n]⟩) (b : Fin p) (r : Fin q) (k : Fin n) :
    shapeCast ⟨3, ![p, q, n]⟩ x h (ix3 b r k) = x (ix2 ⟨b.val * q + r.val, row_lt ha b r⟩ k) := by
  apply shapeCast_apply
  rw [rowMajor_val2 _ n rfl, rowMajor_val3 _ (q * n) n rfl rfl]
  show (b.val * q + r.val) * n + k.val = b.val * (q * n) + r.val * n + k.val
  ring

/-- Words split among batches. -/
theorem split_words {p q a : ℕ} (ha : a = p * q) (x : (⟨1, ![a]⟩ : Shape).Idx → α)
    (h : (⟨1, ![a]⟩ : Shape).ShapeCasts ⟨2, ![p, q]⟩) (b : Fin p) (r : Fin q) :
    shapeCast ⟨2, ![p, q]⟩ x h (ix2 b r) = x (ix1 ⟨b.val * q + r.val, row_lt ha b r⟩) := by
  apply shapeCast_apply
  rw [rowMajor_val1, rowMajor_val2 _ q rfl]
  rfl

/-- The rows of a batch joined. -/
theorem join_rows {p q a n N : ℕ} (ha : a = p * q) (hN : N = q * n) (hn : 0 < n) (x : (⟨2, ![a, n]⟩ : Shape).Idx → α)
    (h : (⟨2, ![a, n]⟩ : Shape).ShapeCasts ⟨2, ![p, N]⟩) (b : Fin p) (g : Fin N) (r : Fin q) (hr : r.val = g.val / n) :
    shapeCast ⟨2, ![p, N]⟩ x h (ix2 b g) = x (ix2 ⟨b.val * q + r.val, row_lt ha b r⟩ ⟨g.val % n, Nat.mod_lt _ hn⟩) := by
  subst hN
  apply shapeCast_apply
  rw [rowMajor_val2 _ n rfl, rowMajor_val2 _ (q * n) rfl]
  show (b.val * q + r.val) * n + g.val % n = b.val * (q * n) + g.val
  rw [hr, Nat.add_mul, Nat.mul_assoc, Nat.add_assoc, Nat.div_add_mod']

end Cert.Beam

end
-- ==== Proof.Rows.lean ====
/-
  The rows of a batch as the kernel's blocks hold them: the host's reshapes of the arguments and the windows read at
  coordinates.
-/
module

public import proofs.«01_k».proof.Proof.DataIdeal
public import proofs.«01_k».proof.Proof.Casts
public import Idealize.ShloMosaic.Lib.Pipeline.ValueKit.Geometry

@[expose] public section

noncomputable section

namespace Cert.KernelIdeal

open Cert.KernelIdeal.Gen
open Idealize.ShloMosaic Idealize.ShloMosaic.TcCoe Idealize.SL.Sem

variable (m : (ℓ : Loc nD τ sig) → Buf (Elt Ideal) ℓ)

/-- The log-probabilities split by batch. -/
theorem V_lp (c : Dev nD) : V m c main_v1 = shapeCast S32x8x100000 (m ((c : Thread nD τ).loc main_arg0)) shapeCasts_S256x100000_S32x8x100000 := by
  show StableHlo.after (List.flatten [hostOps0]) (fun b => m (c, b)) (Proc.devRef .tc main_v1) = _
  simp only [hostOps0, List.flatten_cons, List.flatten_nil, List.append_nil]
  after_results
  rfl

/-- The sequence scores split by batch. -/
theorem V_sq (c : Dev nD) : V m c main_v0 = shapeCast S32x8x1 (m ((c : Thread nD τ).loc main_arg1)) shapeCasts_S256_S32x8x1 := by
  show StableHlo.after (List.flatten [hostOps0]) (fun b => m (c, b)) (Proc.devRef .tc main_v0) = _
  simp only [hostOps0, List.flatten_cons, List.flatten_nil, List.append_nil]
  after_results
  rfl

/-- A place of the split log-probabilities. -/
theorem V_lp_at (c : Dev nD) (b : Fin 32) (r : Fin 8) (k : Fin 100000) :
    V m c main_v1 (ix3 b r k) = Beam.lpRow (m ((c : Thread nD τ).loc main_arg0)) b r k.val := by
  rw [V_lp]
  unfold Beam.lpRow
  rw [dif_pos k.isLt]
  exact Beam.split_rows (q := 8) rfl _ _ b r k

/-- A place of the split sequence scores. -/
theorem V_sq_at (c : Dev nD) (b : Fin 32) (r : Fin 8) :
    V m c main_v0 (ix3 b r 0) = Beam.sqRow (m ((c : Thread nD τ).loc main_arg1)) b r := by
  rw [V_sq]
  unfold Beam.sqRow
  pointwise

/-- The log-probabilities' block of a point: the columns of its step, of the beams of its batch. -/
theorem xblk_at (c : Dev nD) (t : Fin cfg0.N) (b : Fin 32) (v : ℕ) (hb : t.val / 49 = b.val) (hv : t.val % 49 = v) (r : Fin 8) (l : Fin 2048)
    (h : 2048 * v + l.val < 100000) :
    xblk m c t (ix3 0 r l) = Beam.lpRow (m ((c : Thread nD τ).loc main_arg0)) b r (2048 * v + l.val) := by
  have hc0 := coord_b t
  have hc1 := coord_v t
  unfold xblk Pipeline.Window.fill
  rw [dif_pos (moved t r l (by rw [hc1, hv]; exact h)), ← V_lp_at m c b r ⟨2048 * v + l.val, h⟩]
  unfold iblk
  rw [View.read_apply]
  show V m c main_v1 _ = V m c main_v1 _
  congr 1
  funext a
  apply Fin.ext
  match a with
  | ⟨0, _⟩ =>
    show (BitVec.ofNat 32 (grid0.coords t 0).val).toNat * 1 + 1 * 0 = b.val
    rw [BitVec.toNat_ofNat]; omega
  | ⟨1, _⟩ =>
    show 0 * 8 + 1 * r.val = r.val
    omega
  | ⟨2, _⟩ =>
    show (BitVec.ofNat 32 (grid0.coords t 1).val).toNat * 2048 + 1 * l.val = 2048 * v + l.val
    rw [BitVec.toNat_ofNat]; omega

/-- The sequence scores' block of a point: those of the beams of its batch. -/
theorem sblk_at (c : Dev nD) (t : Fin cfg0.N) (b : Fin 32) (hb : t.val / 49 = b.val) (r : Fin 8) :
    sblk m c t (ix3 0 r 0) = Beam.sqRow (m ((c : Thread nD τ).loc main_arg1)) b r := by
  have hc0 := coord_b t
  rw [← V_sq_at m c b r]
  unfold sblk iblk
  rw [View.read_apply]
  show V m c main_v0 _ = V m c main_v0 _
  congr 1
  funext a
  apply Fin.ext
  match a with
  | ⟨0, _⟩ =>
    show (BitVec.ofNat 32 (grid0.coords t 0).val).toNat * 1 + 1 * 0 = b.val
    rw [BitVec.toNat_ofNat]; omega
  | ⟨1, _⟩ =>
    show 0 * 8 + 1 * r.val = r.val
    omega
  | ⟨2, _⟩ =>
    show 0 * 1 + 1 * 0 = 0
    rfl

end Cert.KernelIdeal

end
-- ==== Proof.Arrays.lean ====
/-
  The result arrays: each holds the rows the batches' last points store, and the host reads them without their unit axis.
-/
module

public import proofs.«01_k».proof.Proof.Rows

@[expose] public section

noncomputable section

namespace Cert.KernelIdeal

open Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The last point of batch `b`. -/
def lastPoint (b : Fin 32) : Fin cfg0.N := ⟨49 * b.val + 48, by rw [show cfg0.N = 1568 from N_0]; omega⟩

/-- A point that closes a row is the last of its batch. -/
theorem lastPoint_of (t : Fin cfg0.N) (h : t.val % 49 = 48) : ∃ b : Fin 32, t = lastPoint b := by
  have : t.val < 1568 := lt_of_lt_of_eq t.isLt N_0
  exact ⟨⟨t.val / 49, by omega⟩, Fin.ext (by show t.val = 49 * (t.val / 49) + 48; omega)⟩

theorem lastPoint_val (b : Fin 32) : (lastPoint b).val % 49 = 48 := by
  show (49 * b.val + 48) % 49 = 48; omega

/-- The batch of a last point, as a word. -/
theorem lastPoint_batch (b : Fin 32) : (BitVec.ofNat 32 (grid0.coords (lastPoint b) 0).val).toNat = b.val := by
  rw [coord_b, BitVec.toNat_ofNat]
  show (49 * b.val + 48) / 49 % 2 ^ 32 = b.val
  omega

/-- An array of result rows. -/
abbrev rowsOf {α : Type} (G : Fin 32 → Fin 8 → α) : S32x1x8.Idx → α := fun i => G (i 0) (i 2)

/-- A result row's place in its array. -/
theorem rowsOf_at {α : Type} (G : Fin 32 → Fin 8 → α) (b : Fin 32) (j : Fin 8) (i : S32x1x8.Idx)
    (h0 : (i 0).val = (BitVec.ofNat 32 (grid0.coords (lastPoint b) 0).val).toNat * 1 + 1 * 0) (h2 : (i 2).val = 0 * 8 + 1 * j.val) :
    G b j = rowsOf G i := by
  rw [lastPoint_batch] at h0
  show G b j = G (i 0) (i 2)
  rw [show i 0 = b from Fin.ext (by omega), show i 2 = j from Fin.ext (by omega)]

/-- A place of a block of one row. -/
theorem row_place (y : S1x1x8.Idx) : ∃ j : Fin 8, y = ix3 0 0 j :=
  ⟨y 2, by
    have e0 : y 0 = (0 : Fin 1) := Subsingleton.elim (α := Fin 1) _ _
    have e1 : y 1 = (0 : Fin 1) := Subsingleton.elim (α := Fin 1) _ _
    refine (eq_ix3 y).trans ?_
    rw [e0, e1]⟩

/-- The scores' array. -/
theorem scores_array (G : Fin 32 → Fin 8 → EReal) (h : ∀ b j, (dats m 0 c).after 2 (lastPoint b) (ix3 0 0 j) = G b j) :
    (dats m 0 c).arrAt 2 cfg0.N = rowsOf G := by
  refine (dats m 0 c).arrAt_eq_of_covers 2 (rowsOf G) (by decide +kernel) fun t hf y => ?_
  obtain ⟨b, rfl⟩ := lastPoint_of t ((flush0_2 t).1 hf)
  obtain ⟨j, rfl⟩ := row_place y
  exact (h b j).trans (rowsOf_at G b j _ rfl rfl)

/-- The columns' array. -/
theorem columns_array (G : Fin 32 → Fin 8 → BitVec 32) (h : ∀ b j, (dats m 0 c).after 3 (lastPoint b) (ix3 0 0 j) = G b j) :
    (dats m 0 c).arrAt 3 cfg0.N = rowsOf G := by
  refine (dats m 0 c).arrAt_eq_of_covers 3 (rowsOf G) (by decide +kernel) fun t hf y => ?_
  obtain ⟨b, rfl⟩ := lastPoint_of t ((flush0_3 t).1 hf)
  obtain ⟨j, rfl⟩ := row_place y
  exact (h b j).trans (rowsOf_at G b j _ rfl rfl)

/-- The beams' array. -/
theorem beams_array (G : Fin 32 → Fin 8 → BitVec 32) (h : ∀ b j, (dats m 0 c).after 4 (lastPoint b) (ix3 0 0 j) = G b j) :
    (dats m 0 c).arrAt 4 cfg0.N = rowsOf G := by
  refine (dats m 0 c).arrAt_eq_of_covers 4 (rowsOf G) (by decide +kernel) fun t hf y => ?_
  obtain ⟨b, rfl⟩ := lastPoint_of t ((flush0_4 t).1 hf)
  obtain ⟨j, rfl⟩ := row_place y
  exact (h b j).trans (rowsOf_at G b j _ rfl rfl)

/-- A result without the unit axis. -/
theorem rowsOf_flat {α : Type} (G : Fin 32 → Fin 8 → α) : shapeCast S32x8 (rowsOf G) shapeCasts_S32x1x8_S32x8 = Beam.flatRows G := by
  funext i
  rw [eq_ix2 i]
  pointwise
  rfl

/-- What the host's last lines leave in the three results. -/
theorem tail_results (G0 : Fin 32 → Fin 8 → EReal) (G1 G2 : Fin 32 → Fin 8 → BitVec 32)
    (h0 : (dats m 0 c).arrAt 2 cfg0.N = rowsOf G0) (h1 : (dats m 0 c).arrAt 3 cfg0.N = rowsOf G1)
    (h2 : (dats m 0 c).arrAt 4 cfg0.N = rowsOf G2) :
    Pipeline.afterTail₀ cfgs (dats m) 0 (V0 m) [hostOps1] c main_v3 = Beam.flatRows G0
    ∧ Pipeline.afterTail₀ cfgs (dats m) 0 (V0 m) [hostOps1] c main_v4 = Beam.flatRows G1
    ∧ Pipeline.afterTail₀ cfgs (dats m) 0 (V0 m) [hostOps1] c main_v5 = Beam.flatRows G2 := by
  have arr := fun w : Fin 5 => Pipeline.withArrays_arr spec0 launch0.win.arr_inj c (V0 m c) (fun w => (dats m 0 c).arrAt w cfg0.N) w
  refine ⟨?_, ?_, ?_⟩
  · refine Eq.trans ?_ ((congrArg (fun A => shapeCast S32x8 A shapeCasts_S32x1x8_S32x8) ((arr 2).trans h0)).trans (rowsOf_flat G0))
    unfold Pipeline.afterTail₀
    simp only [hostOps1, List.flatten_cons, List.flatten_nil, List.append_nil]
    after_results
    rfl
  · refine Eq.trans ?_ ((congrArg (fun A => shapeCast S32x8 A shapeCasts_S32x1x8_S32x8) ((arr 3).trans h1)).trans (rowsOf_flat G1))
    unfold Pipeline.afterTail₀
    simp only [hostOps1, List.flatten_cons, List.flatten_nil, List.append_nil]
    after_results
    rfl
  · refine Eq.trans ?_ ((congrArg (fun A => shapeCast S32x8 A shapeCasts_S32x1x8_S32x8) ((arr 4).trans h2)).trans (rowsOf_flat G2))
    unfold Pipeline.afterTail₀
    simp only [hostOps1, List.flatten_cons, List.flatten_nil, List.append_nil]
    after_results
    rfl

/-- The run, read: the three results hold the rows the batches' last points store, the arguments are as launched. -/
theorem run_rows (G0 : Dev nD → Fin 32 → Fin 8 → EReal) (G1 G2 : Dev nD → Fin 32 → Fin 8 → BitVec 32)
    (h : ∀ c b j, (dats m 0 c).after 2 (lastPoint b) (ix3 0 0 j) = G0 c b j
      ∧ (dats m 0 c).after 3 (lastPoint b) (ix3 0 0 j) = G1 c b j ∧ (dats m 0 c).after 4 (lastPoint b) (ix3 0 0 j) = G2 c b j) :
    θ_run defs (onTc (τ := τ) (main (F := Ideal))) ⟨m, fun _ => 0, ρ⟩ (fun r => ∀ c : Dev nD,
      r.2.mem ((c.tc : Thread nD τ).loc main_v3) = Beam.flatRows (G0 c)
      ∧ r.2.mem ((c.tc : Thread nD τ).loc main_v4) = Beam.flatRows (G1 c)
      ∧ r.2.mem ((c.tc : Thread nD τ).loc main_v5) = Beam.flatRows (G2 c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => by
    obtain ⟨e3, e4, e5⟩ := tail_results m c (G0 c) (G1 c) (G2 c) (scores_array m c _ fun b j => (h c b j).1)
      (columns_array m c _ fun b j => (h c b j).2.1) (beams_array m c _ fun b j => (h c b j).2.2)
    have rest := (hr.1 c).2
    exact ⟨(rest main_v3 (Pipeline.mem_restRefs_of main_v3 (by decide) (by decide))).trans e3,
      (rest main_v4 (Pipeline.mem_restRefs_of main_v4 (by decide) (by decide))).trans e4,
      (rest main_v5 (Pipeline.mem_restRefs_of main_v5 (by decide) (by decide))).trans e5,
      (rest main_arg0 (Pipeline.mem_restRefs_of main_arg0 (by decide) (by decide))).trans (W_main_arg0 m (dats m) c),
      (rest main_arg1 (Pipeline.mem_restRefs_of main_arg1 (by decide) (by decide))).trans (W_main_arg1 m (dats m) c)⟩)
    (run_main m ρ)

end Cert.KernelIdeal

end
-- ==== Proof.Lane.lean ====
/-
  Eight slots kept by insertion: an offer goes down the slots, changing places with every slot it is greater than. What
  the slots hold after a run of offers: each live slot an offer, no offer twice, and every offer dropped is at most what
  each of the eight slots holds.
-/
module

public import Mathlib.Data.EReal.Basic
public import Mathlib.Data.Finset.Insert
public import Mathlib.Logic.Equiv.Basic
public import Mathlib.Tactic.Linarith

@[expose] public section

noncomputable section

namespace Cert.Beam

/-- A value and the number of its column. -/
abbrev Item := EReal × BitVec 32

/-- Eight slots (`some k`) and what is on its way down them (`none`). -/
abbrev Row9 := Option (Fin 8) → Item

/-- Slot `k` and what is on its way change places where the latter is greater. -/
def meet (s : Row9) (k : Fin 8) : Row9 :=
  if (s (some k)).1 < (s none).1 then s ∘ Equiv.swap none (some k) else s

/-- The way down the first `n` slots. -/
def down (s : Row9) : (n : ℕ) → n ≤ 8 → Row9
  | 0, _ => s
  | n + 1, h => meet (down s n (by omega)) ⟨n, h⟩

/-- The way down rearranges, and what goes on is at most what the slots passed hold. -/
theorem down_spec (s : Row9) (n : ℕ) (h : n ≤ 8) : (∃ π : Equiv.Perm (Option (Fin 8)), down s n h = s ∘ π)
    ∧ ∀ k : Fin 8, k.val < n → (down s n h none).1 ≤ (down s n h (some k)).1 := by
  induction n with
  | zero => exact ⟨⟨Equiv.refl _, rfl⟩, fun k hk => absurd hk (Nat.not_lt_zero _)⟩
  | succ n ih =>
    obtain ⟨⟨π, hπ⟩, hle⟩ := ih (by omega)
    rw [down]
    set u := down s n (by omega) with hu
    unfold meet
    split
    case isTrue hlt =>
      refine ⟨⟨(Equiv.swap none (some ⟨n, h⟩)).trans π, by rw [hπ]; rfl⟩, fun k hk => ?_⟩
      simp only [Function.comp, Equiv.swap_apply_left]
      by_cases hkn : k = ⟨n, h⟩
      · rw [hkn, Equiv.swap_apply_right]; exact hlt.le
      · rw [Equiv.swap_apply_of_ne_of_ne (by simp) (by simpa using hkn)]
        have hk' : k.val < n := by
          have : k.val ≠ n := fun e => hkn (Fin.ext e)
          omega
        exact hlt.le.trans (hle k hk')
    case isFalse hlt =>
      refine ⟨⟨π, hπ⟩, fun k hk => ?_⟩
      by_cases hkn : k = ⟨n, h⟩
      · rw [hkn]; exact not_lt.1 hlt
      · have : k.val ≠ n := fun e => hkn (Fin.ext e)
        exact hle k (by omega)

/-- The slots after an offer. -/
def offer (s : Fin 8 → Item) (o : Item) : Fin 8 → Item :=
  fun k => down (fun a => a.elim o s) 8 le_rfl (some k)

/-- An offer of the least value changes nothing. -/
theorem offer_bot (s : Fin 8 → Item) (i : BitVec 32) : offer s (⊥, i) = s := by
  have : ∀ n (h : n ≤ 8), down (fun a => a.elim (⊥, i) s) n h = fun a => a.elim (⊥, i) s := by
    intro n
    induction n with
    | zero => exact fun _ => rfl
    | succ n ih =>
      intro h
      rw [down, ih, meet, if_neg]
      exact not_lt_bot
  funext k
  rw [offer, this]
  rfl

/-- What the slots hold once the columns `P`, of values `f`, have been offered. -/
structure Holds (f : ℕ → EReal) (P : Finset ℕ) (s : Fin 8 → Item) : Prop where
  /-- The columns offered are numbered by words and have values. -/
  live : ∀ c ∈ P, c < 2 ^ 32 ∧ ⊥ < f c
  /-- A slot with a value holds a column offered. -/
  held : ∀ k, ⊥ < (s k).1 → ∃ c ∈ P, s k = (f c, BitVec.ofNat 32 c)
  /-- No two slots with values hold the same column. -/
  apart : ∀ k k', ⊥ < (s k).1 → ⊥ < (s k').1 → (s k).2 = (s k').2 → k = k'
  /-- A column offered is held, or its value is at most each slot's. -/
  kept : ∀ c ∈ P, (∃ k, s k = (f c, BitVec.ofNat 32 c)) ∨ ∀ k, f c ≤ (s k).1

/-- Empty slots hold no column. -/
theorem Holds.empty (f : ℕ → EReal) (s : Fin 8 → Item) (h : ∀ k, (s k).1 = ⊥) : Holds f ∅ s where
  live := by simp
  held k hk := absurd (h k ▸ hk) (lt_irrefl _)
  apart k _ hk := absurd (h k ▸ hk) (lt_irrefl _)
  kept := by simp

/-- Two numbers below 2^32 of one word are one. -/
theorem ofNat_inj32 {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- One more column is offered. -/
theorem Holds.offer {f : ℕ → EReal} {P : Finset ℕ} {s : Fin 8 → Item} (h : Holds f P s) (c : ℕ) (hc : c < 2 ^ 32)
    (hcP : c ∉ P) (hf : ⊥ < f c) : Holds f (insert c P) (Beam.offer s (f c, BitVec.ofNat 32 c)) := by
  set st : Row9 := fun a => a.elim (f c, BitVec.ofNat 32 c) s with hst
  obtain ⟨⟨π, hπ⟩, hle⟩ := down_spec st 8 le_rfl
  have hs : ∀ k, Beam.offer s (f c, BitVec.ofNat 32 c) k = st (π (some k)) := fun k => congrFun hπ (some k)
  have hn : ∀ k, (st (π none)).1 ≤ (st (π (some k))).1 := fun k => by
    have := hle k k.isLt; rw [hπ] at this; exact this
  have hheld : ∀ a, ⊥ < (st a).1 → ∃ d ∈ insert c P, st a = (f d, BitVec.ofNat 32 d) := by
    intro a ha
    rcases a with _ | k
    · exact ⟨c, Finset.mem_insert_self _ _, rfl⟩
    · obtain ⟨d, hd, e⟩ := h.held k ha
      exact ⟨d, Finset.mem_insert_of_mem hd, e⟩
  have hapart : ∀ a b, ⊥ < (st a).1 → ⊥ < (st b).1 → (st a).2 = (st b).2 → a = b := by
    have key : ∀ k, ⊥ < (s k).1 → BitVec.ofNat 32 c ≠ (s k).2 := by
      intro k hk e
      obtain ⟨d, hd, e'⟩ := h.held k hk
      rw [e'] at e
      exact hcP (ofNat_inj32 hc (h.live d hd).1 e ▸ hd)
    intro a b ha hb e
    rcases a with _ | k <;> rcases b with _ | k'
    · rfl
    · exact absurd e (key k' hb)
    · exact absurd e.symm (key k ha)
    · exact congrArg some (h.apart k k' ha hb e)
  constructor
  · intro d hd
    rcases Finset.mem_insert.1 hd with rfl | hd
    · exact ⟨hc, hf⟩
    · exact h.live d hd
  · intro k hk
    rw [hs] at hk ⊢
    exact hheld _ hk
  · intro k k' hk hk' e
    rw [hs] at hk e; rw [hs] at hk' e
    have := π.injective (hapart _ _ hk hk' e)
    simpa using this
  · have hin : ∀ (a : Option (Fin 8)) (d : ℕ), st a = (f d, BitVec.ofNat 32 d) →
        (∃ k, Beam.offer s (f c, BitVec.ofNat 32 c) k = (f d, BitVec.ofNat 32 d))
          ∨ ∀ k, f d ≤ (Beam.offer s (f c, BitVec.ofNat 32 c) k).1 := by
      intro a d e
      obtain ⟨b, rfl⟩ := π.surjective a
      rcases b with _ | k
      · right; intro k; rw [hs]; have := hn k; rwa [e] at this
      · left; exact ⟨k, by rw [hs]; exact e⟩
    intro d hd
    rcases Finset.mem_insert.1 hd with rfl | hd
    · exact hin none d rfl
    · rcases h.kept d hd with ⟨k, e⟩ | hall
      · exact hin (some k) d e
      · right
        intro k
        rw [hs]
        rcases hk : π (some k) with _ | k'
        · rcases hm : π none with _ | k''
          · exact absurd (π.injective (hk.trans hm.symm)) (by simp)
          · have := hn k
            rw [hk, hm] at this
            exact (hall k'').trans this
        · exact hall k'

/-- A column dropped is reached by eight others. -/
theorem Holds.dropped {f : ℕ → EReal} {P : Finset ℕ} {s : Fin 8 → Item} (h : Holds f P s) (c : ℕ) (hc : c ∈ P)
    (hno : ¬∃ k, s k = (f c, BitVec.ofNat 32 c)) :
    ∃ g : Fin 8 → ℕ, Function.Injective g ∧ ∀ k, g k ∈ P ∧ g k ≠ c ∧ f c ≤ f (g k) := by
  have hall := (h.kept c hc).resolve_left hno
  have hlive : ∀ k, ⊥ < (s k).1 := fun k => (h.live c hc).2.trans_le (hall k)
  choose g hgP hg using fun k => h.held k (hlive k)
  refine ⟨g, fun k k' e => h.apart k k' (hlive k) (hlive k') (by rw [hg, hg, e]), fun k => ⟨hgP k, ?_, ?_⟩⟩
  · intro e
    exact hno ⟨k, by rw [hg, e]⟩
  · have := hall k; rwa [hg] at this

end Cert.Beam

end
-- ==== Proof.LaneReads.lean ====
/-
  The slots read at one beam and one lane: the eight values and columns there go through an insertion as Lane.lean says.
-/
module

public import proofs.«01_k».proof.Proof.Reads
public import proofs.«01_k».proof.Proof.Lane
public import Idealize.ShloMosaic.PureOps.Ideal

@[expose] public section

noncomputable section

namespace Cert.Beam

open Idealize.ShloMosaic

/-- The eight slots at beam `r` and lane `l`. -/
def Slots.at (S : Slots Ideal) (r : Fin 8) (l : Fin 128) : Fin 8 → Item := fun k => (S.T (ix3 k r l), S.I (ix3 k r l))

/-- The offer at beam `r` and lane `l`. -/
def Offer.at (o : Offer Ideal) (r : Fin 8) (l : Fin 128) : Item := (o.v (ix2 r l), o.i (ix2 r l))

section Generic

variable {α : Type}

/-- A slot as a tile, read at a place. -/
theorem cast_slot_at (W : S1x8x128.Idx → α) (r : Fin 8) (l : Fin 128) : shapeCast S8x128 W cast_slot (ix2 r l) = W (ix3 0 r l) := by
  pointwise

/-- A tile as a slot, read at a place. -/
theorem cast_tile_at (w : S8x128.Idx → α) (r : Fin 8) (l : Fin 128) : shapeCast S1x8x128 w cast_tile (ix3 0 r l) = w (ix2 r l) := by
  pointwise

/-- A slot's window, read at a place. -/
theorem window_at (T : S8x8x128.Idx → α) (k : Fin 8) (r : Fin 8) (l : Fin 128) :
    shapeCast S8x128 (VecWindow.window T ![k.val, 0, 0] S1x8x128.size (inb_slot k.val k.isLt)) cast_slot (ix2 r l) = T (ix3 k r l) := by
  refine (cast_slot_at _ r l).trans (congrArg T (funext fun a => Fin.ext ?_))
  match a with
  | ⟨0, _⟩ => show k.val + 1 * 0 = k.val; omega
  | ⟨1, _⟩ => show 0 + 1 * r.val = r.val; omega
  | ⟨2, _⟩ => show 0 + 1 * l.val = l.val; omega

/-- The slots with one replaced, read at a place. -/
theorem put_at (T : S8x8x128.Idx → α) (w : S8x128.Idx → α) (k k' : Fin 8) (r : Fin 8) (l : Fin 128) :
    VecWindow.put T ![k.val, 0, 0] S1x8x128.size (shapeCast S1x8x128 w cast_tile) (ix3 k' r l)
      = if k' = k then w (ix2 r l) else T (ix3 k' r l) := by
  unfold VecWindow.put
  by_cases hk : k' = k
  · subst hk
    rw [if_pos rfl, dif_pos (fun a => by
      match a with
      | ⟨0, _⟩ => exact ⟨le_rfl, Nat.lt_succ_self _⟩
      | ⟨1, _⟩ => exact ⟨Nat.zero_le _, lt_of_lt_of_eq r.isLt (Nat.zero_add _).symm⟩
      | ⟨2, _⟩ => exact ⟨Nat.zero_le _, lt_of_lt_of_eq l.isLt (Nat.zero_add _).symm⟩)]
    refine Eq.trans (congrArg (shapeCast S1x8x128 w cast_tile) (funext fun a => Fin.ext ?_)) (cast_tile_at w r l)
    match a with
    | ⟨0, _⟩ => exact Nat.sub_self _
    | ⟨1, _⟩ => rfl
    | ⟨2, _⟩ => rfl
  · rw [if_neg hk, dif_neg]
    intro h
    have h0 : k.val ≤ k'.val ∧ k'.val < k.val + 1 := h 0
    exact hk (Fin.ext (by omega))

end Generic

/-- The slots and the offer at a place after some slots have been met. -/
theorem chainP_at (S : Slots Ideal) (o : Offer Ideal) (r : Fin 8) (l : Fin 128) (n : ℕ) (h : n ≤ 8) :
    (fun a => a.elim ((chainP S o n h).2.at r l) ((chainP S o n h).1.at r l))
      = down (fun a => a.elim (o.at r l) (S.at r l)) n h := by
  induction n with
  | zero => rfl
  | succ n ih =>
    rw [down, ← ih (by omega)]
    set p := chainP S o n (by omega) with hp
    have hS : (chainP S o (n + 1) h).1 = slotS p.1 p.2 n h := rfl
    have hO : (chainP S o (n + 1) h).2 = slotO p.1 p.2 n h := rfl
    have hv : p.1.val n h (ix2 r l) = p.1.T (ix3 ⟨n, h⟩ r l) := window_at _ ⟨n, h⟩ r l
    have hi : p.1.idx n h (ix2 r l) = p.1.I (ix3 ⟨n, h⟩ r l) := window_at _ ⟨n, h⟩ r l
    have hg : gtAt p.1 p.2 n h (ix2 r l) = BitVec.ofBool (decide (p.1.T (ix3 ⟨n, h⟩ r l) < p.2.v (ix2 r l))) := by
      rw [← hv]; rfl
    have hT : ∀ k, (slotS p.1 p.2 n h).T (ix3 k r l)
        = if k = ⟨n, h⟩ then Scalar.select (gtAt p.1 p.2 n h (ix2 r l)) (p.2.v (ix2 r l)) (p.1.val n h (ix2 r l)) else p.1.T (ix3 k r l) :=
      fun k => put_at _ _ ⟨n, h⟩ k r l
    have hI : ∀ k, (slotS p.1 p.2 n h).I (ix3 k r l)
        = if k = ⟨n, h⟩ then Scalar.select (gtAt p.1 p.2 n h (ix2 r l)) (p.2.i (ix2 r l)) (p.1.idx n h (ix2 r l)) else p.1.I (ix3 k r l) :=
      fun k => put_at _ _ ⟨n, h⟩ k r l
    have hov : (slotO p.1 p.2 n h).v (ix2 r l) = Scalar.select (gtAt p.1 p.2 n h (ix2 r l)) (p.1.val n h (ix2 r l)) (p.2.v (ix2 r l)) := rfl
    have hoi : (slotO p.1 p.2 n h).i (ix2 r l) = Scalar.select (gtAt p.1 p.2 n h (ix2 r l)) (p.1.idx n h (ix2 r l)) (p.2.i (ix2 r l)) := rfl
    rw [hv, hi] at *
    rw [hS, hO]
    unfold meet
    by_cases hlt : p.1.T (ix3 ⟨n, h⟩ r l) < p.2.v (ix2 r l)
    · refine Eq.trans ?_ (if_pos (by exact hlt)).symm
      simp only [hlt, decide_true, BitVec.ofBool_true] at hg
      funext a
      rcases a with _ | k
      · simp only [Function.comp, Equiv.swap_apply_left]
        exact Prod.ext (by show (slotO p.1 p.2 n h).v (ix2 r l) = _; rw [hov, hg]; rfl) (by show (slotO p.1 p.2 n h).i (ix2 r l) = _; rw [hoi, hg]; rfl)
      · by_cases hk : k = ⟨n, h⟩
        · simp only [Function.comp, hk, Equiv.swap_apply_right]
          exact Prod.ext (by show (slotS p.1 p.2 n h).T _ = _; rw [hT, if_pos rfl, hg]; rfl) (by show (slotS p.1 p.2 n h).I _ = _; rw [hI, if_pos rfl, hg]; rfl)
        · simp only [Function.comp]
          rw [Equiv.swap_apply_of_ne_of_ne (by simp) (by simpa using hk)]
          exact Prod.ext (by show (slotS p.1 p.2 n h).T _ = _; rw [hT, if_neg hk]; rfl) (by show (slotS p.1 p.2 n h).I _ = _; rw [hI, if_neg hk]; rfl)
    · refine Eq.trans ?_ (if_neg (by exact hlt)).symm
      simp only [hlt, decide_false, BitVec.ofBool_false] at hg
      funext a
      rcases a with _ | k
      · exact Prod.ext (by show (slotO p.1 p.2 n h).v (ix2 r l) = _; rw [hov, hg]; rfl) (by show (slotO p.1 p.2 n h).i (ix2 r l) = _; rw [hoi, hg]; rfl)
      · by_cases hk : k = ⟨n, h⟩
        · subst hk
          exact Prod.ext (by show (slotS p.1 p.2 n h).T _ = _; rw [hT, if_pos rfl, hg]; rfl) (by show (slotS p.1 p.2 n h).I _ = _; rw [hI, if_pos rfl, hg]; rfl)
        · exact Prod.ext (by show (slotS p.1 p.2 n h).T _ = _; rw [hT, if_neg hk]; rfl) (by show (slotS p.1 p.2 n h).I _ = _; rw [hI, if_neg hk]; rfl)

/-- An insertion at a place. -/
theorem insertS_at (S : Slots Ideal) (o : Offer Ideal) (r : Fin 8) (l : Fin 128) :
    (insertS S o).at r l = offer (S.at r l) (o.at r l) := by
  funext k
  unfold offer
  rw [← chainP_at]
  rfl

end Cert.Beam

end
-- ==== Proof.BlockReads.lean ====
/-
  The body's values over the extended reals, the mask being minus infinity, read at one beam and one column.
-/
module

public import proofs.«01_k».proof.Proof.LaneReads

@[expose] public section

noncomputable section

namespace Cert.Beam

open Idealize.ShloMosaic

/-- The least value of the format is minus infinity. -/
theorem ofBits_least : (Scalar.ofBits (F := Ideal) .f32 0xFF800000#32 : EReal) = ⊥ := by
  show Ideal.ofBits .f32 0xFF800000#32 = ⊥
  simp [Ideal.ofBits, Ideal.ieee]

/-- A number below 2^31 as a word is another's word exactly if it is that number. -/
theorem word_eq_iff {a b : ℕ} (ha : a < 2 ^ 32) (hb : b < 2 ^ 32) : BitVec.ofNat 32 a = BitVec.ofNat 32 b ↔ a = b :=
  ⟨fun h => ofNat_inj32 ha hb h, fun h => h ▸ rfl⟩

/-- A block's scores at a place. -/
theorem scoreBlock_at (n : ℕ) (hn : n < 49) (x : Vec Ideal S1x8x2048 .f32) (s : Vec Ideal S1x8x1 .f32) (r : Fin 8) (l : Fin 2048) :
    scoreBlock (F := Ideal) ⊥ (BitVec.ofNat 32 n) (masked (F := Ideal) ⊥ (BitVec.ofNat 32 n) x) (seqCol s) (ix2 r l)
      = if 2048 * n + l.val < 100000 ∧ 2048 * n + l.val ≠ 2 then x (ix3 0 r l) + s (ix3 0 r 0) else (⊥ : EReal) := by
  have hm := masked_at (F := Ideal) ⊥ n hn x r l
  have hl := l.isLt
  have hs : broadcastTo S8x2048 (seqCol s) bcast_block (ix2 r l) = s (ix3 0 r 0) := by
    unfold seqCol; pointwise
  have hc := cols_at n r l
  have hq : cmpi .eq (cols (BitVec.ofNat 32 n)) (broadcast S8x2048 2#32) (ix2 r l) = BitVec.ofBool (decide (2048 * n + l.val = 2)) := by
    show IntOp.cmpi .eq (cols (BitVec.ofNat 32 n) (ix2 r l)) 2#32 = _
    rw [hc]
    show BitVec.ofBool (decide (BitVec.ofNat 32 (2048 * n + l.val) = BitVec.ofNat 32 2)) = _
    rw [decide_eq_decide.2 (word_eq_iff (by omega) (by omega))]
  show Scalar.select (cmpi .eq (cols (BitVec.ofNat 32 n)) (broadcast S8x2048 2#32) (ix2 r l)) (⊥ : EReal)
    (masked (F := Ideal) ⊥ (BitVec.ofNat 32 n) x (ix2 r l)) + broadcastTo S8x2048 (seqCol s) bcast_block (ix2 r l) = _
  rw [hs, hq]
  by_cases h2 : 2048 * n + l.val = 2
  · refine Eq.trans ?_ (if_neg (fun h => h.2 h2)).symm
    simp only [h2, decide_true]
    exact EReal.bot_add _
  · simp only [h2, decide_false]
    by_cases h : 2048 * n + l.val < 100000
    · refine Eq.trans ?_ (if_pos ⟨h, h2⟩).symm
      rw [hm, if_pos h]; rfl
    · refine Eq.trans ?_ (if_neg (fun h' => h h'.1)).symm
      rw [hm, if_neg h]; exact EReal.bot_add _

/-- A tile's offer at a place. -/
theorem tileOf_at (V : FVec Ideal S8x2048 .f32) (C : IVec S8x2048 32) (n : ℕ) (hn : n < 16) (r : Fin 8) (l : Fin 128) :
    (tileOf V C n hn).at r l = (V (ix2 r ⟨128 * n + l.val, by omega⟩), C (ix2 r ⟨128 * n + l.val, by omega⟩)) := by
  have key : ∀ {α : Type} (W : S8x2048.Idx → α),
      extractStridedSlice S8x128 ![0, 128 * n] W (slices_tile n hn) (ix2 r l) = W (ix2 r ⟨128 * n + l.val, by omega⟩) := by
    intro α W
    unfold extractStridedSlice
    refine congrArg W (funext fun a => Fin.ext ?_)
    match a with
    | ⟨0, _⟩ => exact Nat.zero_add _
    | ⟨1, _⟩ => rfl
  exact Prod.ext (key V) (key C)

/-- A block's maximum is at most a bound exactly if every entry is. -/
theorem rowMax_le (X : FVec Ideal S8x2048 .f32) (r : Fin 8) (y : EReal) :
    rowMax X (ix2 r 0) ≤ y ↔ ∀ l : Fin 2048, X (ix2 r l) ≤ y := by
  have : rowMax X (ix2 r 0) = Finset.univ.fold max (⊥ : EReal) (fun l : Fin 2048 => X (ix2 r l)) := by
    unfold rowMax
    pointwise
    exact congrArg (fun b : EReal => Finset.univ.fold max b (fun l : Fin 2048 => X (ix2 r l))) ofBits_least
  rw [this, Finset.fold_max_le]
  simp

/-- The tile offered last, at a place. -/
theorem eosTile_at (e m : FVec Ideal S8x1 .f32) (s : Vec Ideal S1x8x1 .f32) (r : Fin 8) (l : Fin 128) :
    eosTile (F := Ideal) ⊥ e m (seqCol s) (ix2 r l)
      = if l.val = 0 ∧ Ideal.ofBits .f32 0x3FC00000#32 * m (ix2 r 0) < e (ix2 r 0) then e (ix2 r 0) + s (ix3 0 r 0) else (⊥ : EReal) := by
  have hs : seqCol s (ix2 r 0) = s (ix3 0 r 0) := by
    unfold seqCol; pointwise
  unfold eosTile
  pointwise
  rw [hs]
  have hq : IntOp.cmpi .eq (BitVec.ofNat 32 l.val) 0#32 = BitVec.ofBool (decide (l.val = 0)) := by
    show BitVec.ofBool (decide (BitVec.ofNat 32 l.val = BitVec.ofNat 32 0)) = _
    rw [decide_eq_decide.2 (word_eq_iff (by omega) (by omega))]
  rw [hq]
  by_cases h : l.val = 0
  · simp [h, Scalar.select]
  · simp [h, Scalar.select]

/-- The candidates at a place: slot `k` of beam `r`. -/
theorem candOf_at (S : Slots Ideal) (k r : Fin 8) (l : Fin 128) :
    candOf S (ix2 ⟨8 * k.val + r.val, by omega⟩ l) = S.T (ix3 k r l) := by
  unfold candOf
  pointwise

/-- The flat positions at a place. -/
theorem flatOf_at (I : IVec S8x8x128 32) (k r : Fin 8) (l : Fin 128) :
    flatOf I (ix2 ⟨8 * k.val + r.val, by omega⟩ l) = BitVec.ofNat 32 (r.val * 100000) + I (ix3 k r l) := by
  unfold flatOf
  pointwise
  exact congrArg (fun w => IntOp.addi w (I (ix3 k r l))) (by revert k r; decide)

/-- The largest candidate is at most a bound exactly if every candidate is. -/
theorem best_le (c : FVec Ideal S64x128 .f32) (y : EReal) : best c ≤ y ↔ ∀ (p : Fin 64) (l : Fin 128), c (ix2 p l) ≤ y := by
  have : best c = Finset.univ.fold max (⊥ : EReal) (fun i : Fin 64 × Fin 128 => c (ix2 i.1 i.2)) := by
    unfold best
    pointwise
    exact congrArg (fun b : EReal => Finset.univ.fold max b (fun i : Fin 64 × Fin 128 => c (ix2 i.1 i.2))) ofBits_least
  rw [this, Finset.fold_max_le]
  simp

/-- The flat position found is the least word among the largest candidates. -/
theorem bestAt_eq (fl : IVec S64x128 32) (c : FVec Ideal S64x128 .f32) :
    bestAt fl c = Finset.univ.fold IntOp.minsi 2147483647#32
      (fun i : Fin 64 × Fin 128 => if c (ix2 i.1 i.2) = best c then fl (ix2 i.1 i.2) else 2147483647#32) := by
  unfold bestAt hits
  pointwise

/-- The candidates left at a place. -/
theorem drop_at (fl : IVec S64x128 32) (c : FVec Ideal S64x128 .f32) (p : Fin 64) (l : Fin 128) :
    drop (F := Ideal) ⊥ fl c (ix2 p l)
      = if c (ix2 p l) = best c ∧ fl (ix2 p l) = bestAt fl c then (⊥ : EReal) else c (ix2 p l) := by
  unfold drop hits
  pointwise
  show Scalar.select (IntOp.andi _ (BitVec.ofBool (decide (fl (ix2 p l) = bestAt fl c)))) _ _ = _
  by_cases h : c (ix2 p l) = best c <;> by_cases h' : fl (ix2 p l) = bestAt fl c <;> simp [h, h', Scalar.select, IntOp.andi]

end Cert.Beam

end
-- ==== Proof.RowState.lean ====
/-
  What the carried buffers hold while a batch's vocabulary is walked: per beam and lane the slots of the columns walked,
  per beam the largest log-probability walked and that of the end of sequence.
-/
module

public import proofs.«01_k».proof.Proof.BlockReads

@[expose] public section

noncomputable section

namespace Cert.Beam

open Idealize.ShloMosaic

/-- The columns below `n` of lane `l` that have values, the end of sequence aside. -/
def walked (f : ℕ → EReal) (l n : ℕ) : Finset ℕ :=
  (Finset.range (min n 100000)).filter fun c => c % 128 = l ∧ c ≠ 2 ∧ ⊥ < f c

theorem mem_walked (f : ℕ → EReal) (l n c : ℕ) : c ∈ walked f l n ↔ (c < n ∧ c < 100000) ∧ c % 128 = l ∧ c ≠ 2 ∧ ⊥ < f c := by
  unfold walked; rw [Finset.mem_filter, Finset.mem_range, lt_min_iff]

/-- One more tile of columns. -/
theorem Holds.tile {f : ℕ → EReal} {l q : ℕ} {s : Fin 8 → Item} (hl : l < 128) (h : Holds f (walked f l (128 * q)) s) :
    Holds f (walked f l (128 * (q + 1)))
      (Beam.offer s (if 128 * q + l < 100000 ∧ 128 * q + l ≠ 2 then f (128 * q + l) else ⊥, BitVec.ofNat 32 (128 * q + l))) := by
  by_cases hc : (128 * q + l < 100000 ∧ 128 * q + l ≠ 2) ∧ ⊥ < f (128 * q + l)
  · rw [if_pos hc.1]
    have e : walked f l (128 * (q + 1)) = Insert.insert (128 * q + l) (walked f l (128 * q)) := by
      ext c
      rw [Finset.mem_insert, mem_walked, mem_walked]
      constructor
      · rintro ⟨⟨h1, h2⟩, h3, h4⟩
        by_cases hlt : c < 128 * q
        · exact Or.inr ⟨⟨hlt, h2⟩, h3, h4⟩
        · left; omega
      · rintro (rfl | ⟨⟨h1, h2⟩, h3, h4⟩)
        · exact ⟨⟨by omega, hc.1.1⟩, by omega, hc.1.2, hc.2⟩
        · exact ⟨⟨by omega, h2⟩, h3, h4⟩
    rw [e]
    refine h.offer _ (by have := hc.1.1; omega) (fun hm => ?_) hc.2
    have := ((mem_walked _ _ _ _).1 hm).1.1
    omega
  · have e : walked f l (128 * (q + 1)) = walked f l (128 * q) := by
      ext c
      rw [mem_walked, mem_walked]
      constructor
      · rintro ⟨⟨h1, h2⟩, h3, h4⟩
        refine ⟨⟨?_, h2⟩, h3, h4⟩
        by_contra hlt
        have : c = 128 * q + l := by omega
        subst this
        exact hc ⟨⟨h2, h4.1⟩, h4.2⟩
      · rintro ⟨⟨h1, h2⟩, h3, h4⟩
        exact ⟨⟨by omega, h2⟩, h3, h4⟩
    rw [e]
    have hb : (if 128 * q + l < 100000 ∧ 128 * q + l ≠ 2 then f (128 * q + l) else ⊥) = (⊥ : EReal) := by
      split
      case isTrue h' => exact not_bot_lt_iff.1 (fun h'' => hc ⟨h', h''⟩)
      case isFalse => rfl
    rw [hb, offer_bot]
    exact h

variable (X : Fin 8 → ℕ → EReal) (s : Fin 8 → EReal)

/-- The score of column `c` of beam `r`. -/
def score (r : Fin 8) (c : ℕ) : EReal := X r c + s r

/-- The buffers after the columns below `n`. -/
structure Walked (n : ℕ) (c : Carry Ideal) : Prop where
  slots : ∀ (r : Fin 8) (l : Fin 128), Holds (score X s r) (walked (score X s r) l.val n) (c.S.at r l)
  most : ∀ (r : Fin 8) (y : EReal), c.m (ix2 r 0) ≤ y ↔ ∀ k, k < n → k < 100000 → X r k ≤ y
  eos : ∀ r : Fin 8, c.e (ix2 r 0) = X r 2

variable {X s}

/-- The tiles of a block. -/
theorem tilesS_at (v : ℕ) (hv : v < 49) (x : Vec Ideal S1x8x2048 .f32) (sq : Vec Ideal S1x8x1 .f32)
    (hx : ∀ (r : Fin 8) (l : Fin 2048), 2048 * v + l.val < 100000 → x (ix3 0 r l) = X r (2048 * v + l.val))
    (hs : ∀ r : Fin 8, sq (ix3 0 r 0) = s r) (S : Slots Ideal)
    (h : ∀ (r : Fin 8) (l : Fin 128), Holds (score X s r) (walked (score X s r) l.val (2048 * v)) (S.at r l)) (n : ℕ) (hn : n ≤ 16)
    (r : Fin 8) (l : Fin 128) :
    Holds (score X s r) (walked (score X s r) l.val (128 * (16 * v + n)))
      ((tilesS S (scoreBlock (F := Ideal) ⊥ (BitVec.ofNat 32 v) (masked (F := Ideal) ⊥ (BitVec.ofNat 32 v) x) (seqCol sq))
        (cols (BitVec.ofNat 32 v)) n hn).at r l) := by
  induction n with
  | zero =>
    have := h r l
    rwa [show 128 * (16 * v + 0) = 2048 * v by omega]
  | succ n ih =>
    rw [tilesS, insertS_at, tileOf_at, scoreBlock_at v hv, cols_at]
    have := (ih (by omega)).tile l.isLt
    rw [show 16 * v + (n + 1) = 16 * v + n + 1 by omega]
    convert this using 2
    refine Prod.ext ?_ ?_
    · dsimp only
      rw [show 2048 * v + (128 * n + l.val) = 128 * (16 * v + n) + l.val by omega]
      split
      case isTrue h' =>
        rw [hx r _ (by dsimp only; omega), hs]
        unfold score
        dsimp only
        rw [show 2048 * v + (128 * n + l.val) = 128 * (16 * v + n) + l.val by omega]
      case isFalse => rfl
    · dsimp only
      rw [show 2048 * v + (128 * n + l.val) = 128 * (16 * v + n) + l.val by omega]

/-- The empty slots at a place. -/
theorem emptyS_at (r : Fin 8) (l : Fin 128) (k : Fin 8) : ((emptyS (F := Ideal) ⊥).at r l k).1 = (⊥ : EReal) := by
  unfold Slots.at emptyS
  pointwise

/-- One more block. -/
theorem Walked.block (v : ℕ) (hv : v < 49) (x : Vec Ideal S1x8x2048 .f32) (sq : Vec Ideal S1x8x1 .f32)
    (hx : ∀ (r : Fin 8) (l : Fin 2048), 2048 * v + l.val < 100000 → x (ix3 0 r l) = X r (2048 * v + l.val))
    (hs : ∀ r : Fin 8, sq (ix3 0 r 0) = s r) (c : Carry Ideal) (hc : v = 0 ∨ Walked X s (2048 * v) c) :
    Walked X s (2048 * (v + 1)) (bodyC (F := Ideal) ⊥ (BitVec.ofNat 32 v) x sq c) := by
  have hmax : ∀ (r : Fin 8) (y : EReal), rowMax (masked (F := Ideal) ⊥ (BitVec.ofNat 32 v) x) (ix2 r 0) ≤ y
      ↔ ∀ k, 2048 * v ≤ k → k < 2048 * (v + 1) → k < 100000 → X r k ≤ y := by
    intro r y
    rw [rowMax_le]
    constructor
    · intro h k h1 h2 h3
      have := h ⟨k - 2048 * v, by omega⟩
      rw [masked_at _ v hv] at this
      dsimp only at this
      rw [if_pos (by omega), hx r _ (by dsimp only; omega)] at this
      dsimp only at this
      rwa [show 2048 * v + (k - 2048 * v) = k by omega] at this
    · intro h l
      rw [masked_at _ v hv]
      split
      case isTrue h' => rw [hx r l h']; exact h _ (by omega) (by omega) h'
      case isFalse => exact bot_le
  have cast_col_at : ∀ (f : FVec Ideal S8x1 .f32) (r : Fin 8), shapeCast S8x1 f cast_col (ix2 r 0) = f (ix2 r 0) := by
    intro f r; pointwise
  constructor
  · intro r l
    rw [show 2048 * (v + 1) = 128 * (16 * v + 16) by omega]
    refine tilesS_at v hv x sq hx hs _ (fun r l => ?_) 16 le_rfl r l
    unfold headC
    dsimp only
    by_cases h0 : v = 0
    · subst h0
      rw [if_pos ((first_iff 0 (by decide)).2 rfl)]
      have e : walked (score X s r) l.val (2048 * 0) = ∅ := by
        ext c; rw [mem_walked]; simp
      rw [e]
      exact Holds.empty _ _ (emptyS_at r l)
    · rw [if_neg (fun h => h0 ((first_iff v hv).1 h))]
      exact (hc.resolve_left h0).slots r l
  · intro r y
    show (headC (F := Ideal) ⊥ (BitVec.ofNat 32 v) (masked (F := Ideal) ⊥ (BitVec.ofNat 32 v) x) c).m (ix2 r 0) ≤ y ↔ _
    unfold headC
    dsimp only
    by_cases h0 : v = 0
    · subst h0
      rw [if_neg (fun h => (later_iff 0 (by decide)).1 h rfl), if_pos ((first_iff 0 (by decide)).2 rfl), cast_col_at, hmax]
      exact ⟨fun h k h1 h2 => h k (by omega) h1 h2, fun h k _ h1 h2 => h k h1 h2⟩
    · rw [if_pos ((later_iff v hv).2 h0), if_neg (fun h => h0 ((first_iff v hv).1 h)), cast_col_at]
      show max (c.m (ix2 r 0)) (rowMax (masked (F := Ideal) ⊥ (BitVec.ofNat 32 v) x) (ix2 r 0)) ≤ y ↔ _
      rw [max_le_iff, hmax, (hc.resolve_left h0).most]
      constructor
      · rintro ⟨h1, h2⟩ k h3 h4
        by_cases hlt : k < 2048 * v
        · exact h1 k hlt h4
        · exact h2 k (by omega) h3 h4
      · intro h
        exact ⟨fun k h1 h2 => h k (by omega) h2, fun k _ h1 h2 => h k h1 h2⟩
  · intro r
    show (headC (F := Ideal) ⊥ (BitVec.ofNat 32 v) (masked (F := Ideal) ⊥ (BitVec.ofNat 32 v) x) c).e (ix2 r 0) = _
    unfold headC
    dsimp only
    by_cases h0 : v = 0
    · subst h0
      rw [if_pos ((first_iff 0 (by decide)).2 rfl), cast_col_at]
      have : extractStridedSlice S8x1 ![0, 2] (masked (F := Ideal) ⊥ (BitVec.ofNat 32 0) x) slices_eos (ix2 r 0)
          = masked (F := Ideal) ⊥ (BitVec.ofNat 32 0) x (ix2 r 2) := by
        pointwise
      rw [this, masked_at _ 0 (by decide), if_pos (by decide)]
      exact hx r 2 (by decide)
    · rw [if_neg (fun h => h0 ((first_iff v hv).1 h))]
      exact (hc.resolve_left h0).eos r

/-- The lane a column is offered in: the end of sequence in the first, another by its number. -/
def laneOf (c : ℕ) : ℕ := if c = 2 then 0 else c % 128

/-- The columns of lane `l` that have values. -/
def offered (f : ℕ → EReal) (l : ℕ) : Finset ℕ := (Finset.range 100000).filter fun c => laneOf c = l ∧ ⊥ < f c

theorem mem_offered (f : ℕ → EReal) (l c : ℕ) : c ∈ offered f l ↔ c < 100000 ∧ laneOf c = l ∧ ⊥ < f c := by
  unfold offered; rw [Finset.mem_filter, Finset.mem_range]

/-- The slots hold the same under values that agree on the columns offered. -/
theorem Holds.congr {f g : ℕ → EReal} {P : Finset ℕ} {s : Fin 8 → Item} (h : Holds f P s) (e : ∀ c ∈ P, f c = g c) : Holds g P s where
  live c hc := ⟨(h.live c hc).1, e c hc ▸ (h.live c hc).2⟩
  held k hk := by
    obtain ⟨c, hc, hk⟩ := h.held k hk
    exact ⟨c, hc, by rw [hk, e c hc]⟩
  apart := h.apart
  kept c hc := by rw [← e c hc]; exact h.kept c hc

variable (X s)

/-- A column's score once the end of sequence is decided: as it stands, but none for an end of sequence not kept. -/
def final (kept : Fin 8 → Prop) [DecidablePred kept] (r : Fin 8) (c : ℕ) : EReal := if c = 2 ∧ ¬kept r then ⊥ else score X s r c

variable {X s}

/-- The closed slots. -/
theorem closeS_at (c : Carry Ideal) (hc : Walked X s 100352 c) (sq : Vec Ideal S1x8x1 .f32) (hs : ∀ r : Fin 8, sq (ix3 0 r 0) = s r)
    (kept : Fin 8 → Prop) [DecidablePred kept] (hk : ∀ r, kept r ↔ Ideal.ofBits .f32 0x3FC00000#32 * c.m (ix2 r 0) < X r 2)
    (r : Fin 8) (l : Fin 128) :
    Holds (final X s kept r) (offered (final X s kept r) l.val) ((closeS (F := Ideal) ⊥ sq c).at r l) := by
  have hw : Holds (final X s kept r) (walked (score X s r) l.val 100352) (c.S.at r l) := by
    refine (hc.slots r l).congr fun d hd => ?_
    unfold final
    rw [if_neg (fun h => ((mem_walked _ _ _ _).1 hd).2.2.1 h.1)]
  have ho : (⟨eosTile (F := Ideal) ⊥ c.e c.m (seqCol sq), broadcast S8x128 2#32⟩ : Offer Ideal).at r l
      = (if l.val = 0 ∧ kept r then score X s r 2 else ⊥, BitVec.ofNat 32 2) := by
    refine Prod.ext ?_ rfl
    refine (eosTile_at c.e c.m sq r l).trans ?_
    rw [hc.eos, hs]
    unfold score
    by_cases h : l.val = 0 ∧ kept r
    · rw [if_pos ⟨h.1, (hk r).1 h.2⟩, if_pos h]
    · rw [if_neg (fun h' => h ⟨h'.1, (hk r).2 h'.2⟩), if_neg h]
  unfold closeS
  rw [insertS_at, ho]
  have other : ∀ d, d ≠ 2 → (d ∈ offered (final X s kept r) l.val ↔ d ∈ walked (score X s r) l.val 100352) := by
    intro d hd
    rw [mem_offered, mem_walked]
    unfold final laneOf
    rw [if_neg hd, if_neg (fun h : d = 2 ∧ _ => hd h.1)]
    constructor
    · rintro ⟨h1, h2, h3⟩; exact ⟨⟨by omega, h1⟩, h2, hd, h3⟩
    · rintro ⟨⟨_, h1⟩, h2, _, h3⟩; exact ⟨h1, h2, h3⟩
  by_cases h : (l.val = 0 ∧ kept r) ∧ ⊥ < score X s r 2
  · have hf : final X s kept r 2 = score X s r 2 := by
      unfold final; rw [if_neg (fun h' => h'.2 h.1.2)]
    have e : offered (final X s kept r) l.val = Insert.insert 2 (walked (score X s r) l.val 100352) := by
      ext d
      rw [Finset.mem_insert]
      by_cases hd : d = 2
      · subst hd
        refine ⟨fun _ => Or.inl rfl, fun _ => ?_⟩
        rw [mem_offered, hf]
        exact ⟨by decide, h.1.1.symm, h.2⟩
      · rw [other d hd]; simp [hd]
    rw [if_pos h.1, ← hf, e]
    exact hw.offer 2 (by decide) (fun hm => ((mem_walked _ _ _ _).1 hm).2.2.1 rfl) (hf ▸ h.2)
  · have hb : (if l.val = 0 ∧ kept r then score X s r 2 else ⊥) = (⊥ : EReal) := by
      split
      case isTrue h' => exact not_bot_lt_iff.1 (fun h'' => h ⟨h', h''⟩)
      case isFalse => rfl
    have e : offered (final X s kept r) l.val = walked (score X s r) l.val 100352 := by
      ext d
      by_cases hd : d = 2
      · subst hd
        refine ⟨fun hm => ?_, fun hm => absurd rfl ((mem_walked _ _ _ _).1 hm).2.2.1⟩
        obtain ⟨-, h1, h2⟩ := (mem_offered _ _ _).1 hm
        unfold final at h2
        by_cases hkr : kept r
        · rw [if_neg (fun h' => h'.2 hkr)] at h2
          exact absurd ⟨⟨h1.symm, hkr⟩, h2⟩ h
        · rw [if_pos ⟨rfl, hkr⟩] at h2; exact absurd h2 (lt_irrefl _)
      · exact other d hd
    rw [hb, offer_bot, e]
    exact hw

end Cert.Beam

end
-- ==== Proof.Rank.lean ====
/-
  The order in which a top-k takes the entries of a line of extended reals: greater entries first, equal entries by
  position. What the host's top-k puts at each place.
-/
module

public import Idealize.ShloMosaic.Lib.SortPrefix
public import Idealize.ShloMosaic.Lib.Pointwise
public import Idealize.ShloMosaic.PureOps.Ideal

@[expose] public section

noncomputable section

namespace Cert.Beam

open Idealize.ShloMosaic

/-- Entry `a` is greater than entry `b`. -/
def above {n : ℕ} (key : Fin n → EReal) (a b : Fin n) : Bool := decide (key b < key a)
/-- Entry `a` is greater than entry `b`, or equal to it and at an earlier position. -/
def ahead {n : ℕ} (key : Fin n → EReal) (a b : Fin n) : Bool := above key a b || (decide (key a = key b) && decide (a < b))

/-- `ahead` is a strict total order. -/
theorem ahead_total {n : ℕ} (key : Fin n → EReal) : StrictTotalBefore (ahead key) :=
  StrictTotalBefore.of_key_then_position (fun x y : EReal => decide (y < x)) key (by simp)
    (fun a b c h h' => by simp only [decide_eq_true_eq] at *; exact h'.trans h)
    (fun a b => by simp only [decide_eq_true_eq]; rcases lt_trichotomy a b with h | h | h <;> tauto)

/-- Over a line of increasing positions the stable sort by value is the sort by value and then position. -/
theorem stableSort_above {n : ℕ} (key : Fin n → EReal) (l : List (Fin n)) (hl : l.Pairwise (· < ·)) :
    stableSort (above key) l = stableSort (ahead key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [ahead, not_lt_of_gt hab]

/-- The position of the entry that comes `i`-th. -/
def rank {n : ℕ} (key : Fin n → EReal) (i : Fin n) : Fin n := sortedFrom (ahead key) i

theorem sortedFrom_above {n : ℕ} (key : Fin n → EReal) : sortedFrom (above key) = rank key := by
  funext k
  unfold rank sortedFrom
  unfold sortPositions
  rw [List.get_of_eq (stableSort_above key (List.finRange n) (List.pairwise_lt_finRange n))]
  rfl

theorem rank_injective {n : ℕ} (key : Fin n → EReal) : Function.Injective (rank key) := sortedFrom_injective _
theorem rank_surjective {n : ℕ} (key : Fin n → EReal) : Function.Surjective (rank key) := sortedFrom_surjective _

/-- What comes earlier is ahead. -/
theorem rank_ahead {n : ℕ} (key : Fin n → EReal) (i j : Fin n) (h : i < j) : ahead key (rank key i) (rank key j) = true := by
  have hB := ahead_total key
  have h1 : ahead key (rank key j) (rank key i) = false :=
    sortedFrom_noInversion (ahead key) (ahead key) (fun a b h => hB.asymm a b h) (fun _ _ h => h) hB.negTrans i j h
  rcases hB.total (rank key i) (rank key j) (fun e => absurd (rank_injective key e) h.ne) with h2 | h2
  · exact h2
  · rw [h2] at h1; exact absurd h1 (by decide)

/-- What comes earlier is not smaller. -/
theorem rank_anti {n : ℕ} (key : Fin n → EReal) (i j : Fin n) (h : i ≤ j) : key (rank key j) ≤ key (rank key i) := by
  rcases h.eq_or_lt with rfl | h
  · exact le_rfl
  · have := rank_ahead key i j h
    simp only [ahead, above, Bool.or_eq_true, Bool.and_eq_true, decide_eq_true_eq] at this
    rcases this with h | h
    · exact h.le
    · exact h.1.ge

/-- What is ahead of the entry that comes `i`-th comes earlier. -/
theorem exists_of_ahead {n : ℕ} (key : Fin n → EReal) (i : Fin n) (p : Fin n) (h : ahead key p (rank key i) = true) :
    ∃ j, j < i ∧ rank key j = p := by
  obtain ⟨j, rfl⟩ := rank_surjective key p
  refine ⟨j, ?_, rfl⟩
  by_contra hj
  rcases (not_lt.1 hj).eq_or_lt with e | hlt
  · subst e; rw [(ahead_total key).irrefl] at h; exact absurd h (by decide)
  · have := (ahead_total key).asymm _ _ (rank_ahead key i j hlt)
    rw [this] at h; exact absurd h (by decide)

/-- A fiber along the last of two axes. -/
theorem along_ix2 {a n : ℕ} (r : Fin a) (c k : Fin n) : (ix2 r c).along (s := ⟨2, ![a, n]⟩) 1 k = ix2 r k := by
  funext b
  match b with
  | ⟨0, _⟩ => rfl
  | ⟨1, _⟩ => rfl

/-- The host's comparison is `above`. -/
theorem cmp_above {n : ℕ} (key : Fin n → EReal) :
    (fun k k' => FloatOps.cmpfTotal (F := Ideal) (φ := .f32) .gt (key k) (key k') == 1#1) = above key := by
  funext k k'
  show (BitVec.ofBool (decide (key k' < key k)) == 1#1) = decide (key k' < key k)
  by_cases h : key k' < key k <;> simp [h]

/-- The position a sort along the last of two axes takes an element from. -/
theorem sorted_place {a n : ℕ} (x : FVec Ideal ⟨2, ![a, n]⟩ .f32) (r : Fin a) (c : Fin n) :
    sortedFrom (n := n) (fun k k' => FloatOps.cmpfTotal (F := Ideal) (φ := .f32) .gt
      (x ((ix2 r c).along (s := ⟨2, ![a, n]⟩) 1 k)) (x ((ix2 r c).along (s := ⟨2, ![a, n]⟩) 1 k')) == 1#1) c
      = rank (fun c => x (ix2 r c)) c := by
  rw [← sortedFrom_above, ← cmp_above]
  congr 1
  funext k k'
  rw [along_ix2, along_ix2]

/-- The place a slice at offset zero reads. -/
theorem slice_ix2 {a n k : ℕ} {α : Type} (x : (⟨2, ![a, n]⟩ : Shape).Idx → α)
    (h : (⟨2, ![a, n]⟩ : Shape).Slices (fun _ => 0) ⟨2, ![a, k]⟩) (hk : k ≤ n) (r : Fin a) (j : Fin k) :
    extractStridedSlice ⟨2, ![a, k]⟩ (fun _ => 0) x h (ix2 r j) = x (ix2 r (j.castLE hk)) := by
  unfold extractStridedSlice
  congr 1
  funext b
  match b with
  | ⟨0, _⟩ => exact Fin.ext (Nat.zero_add _)
  | ⟨1, _⟩ => exact Fin.ext (Nat.zero_add _)

/-- The values of a top-k along the last axis. -/
theorem topK_values {a n k : ℕ} (x : FVec Ideal ⟨2, ![a, n]⟩ .f32)
    (h : (⟨2, ![a, n]⟩ : Shape).Slices (fun _ => 0) ⟨2, ![a, k]⟩) (hk : k ≤ n) (r : Fin a) (j : Fin k) :
    (Host.topK ⟨2, ![a, k]⟩ 1 (FloatOps.cmpfTotal .gt) x h).1 (ix2 r j)
      = x (ix2 r (rank (fun c => x (ix2 r c)) (j.castLE hk))) := by
  unfold Host.topK; dsimp only
  rw [slice_ix2 _ h hk]
  unfold Host.sort2
  rw [dif_pos (show 1 < 2 by decide)]
  exact (congrArg (fun q : Fin n => x ((ix2 r (j.castLE hk)).along (s := ⟨2, ![a, n]⟩) 1 q)) (sorted_place x r (j.castLE hk))).trans
    (congrArg x (along_ix2 _ _ _))

/-- The positions of a top-k along the last axis. -/
theorem topK_places {a n k : ℕ} (x : FVec Ideal ⟨2, ![a, n]⟩ .f32)
    (h : (⟨2, ![a, n]⟩ : Shape).Slices (fun _ => 0) ⟨2, ![a, k]⟩) (hk : k ≤ n) (r : Fin a) (j : Fin k) :
    (Host.topK ⟨2, ![a, k]⟩ 1 (FloatOps.cmpfTotal .gt) x h).2 (ix2 r j)
      = BitVec.ofNat 32 (rank (fun c => x (ix2 r c)) (j.castLE hk)).val := by
  unfold Host.topK; dsimp only
  rw [slice_ix2 _ h hk]
  unfold Host.sort2
  rw [dif_pos (show 1 < 2 by decide)]
  exact congrArg (fun q : Fin n => BitVec.ofNat 32 q.val) (sorted_place x r (j.castLE hk))

end Cert.Beam

end
-- ==== Proof.Select.lean ====
/-
  Eight rounds of taking the largest candidate left, the smallest flat position among equals, find the first eight of
  the whole line, when the candidates are entries of the line and the first eight are among them.
-/
module

public import proofs.«01_k».proof.Proof.Rank
public import proofs.«01_k».proof.Proof.BlockReads

@[expose] public section

noncomputable section

namespace Cert.Beam

open Idealize.ShloMosaic

/-- The smaller of two words as signed numbers. -/
theorem minsi_toInt (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.1 h)]

/-- The least of words is the word among them that no other is below. -/
theorem fold_minsi {ι : Type} (s : Finset ι) (f : ι → BitVec 32) (w : BitVec 32) (hw : ∃ i ∈ s, f i = w)
    (hle : ∀ i ∈ s, w.toInt ≤ (f i).toInt) : s.fold IntOp.minsi 2147483647#32 f = w := by
  apply BitVec.eq_of_toInt_eq
  have h : (s.fold IntOp.minsi 2147483647#32 f).toInt = s.fold min (2147483647#32).toInt (fun i => (f i).toInt) :=
    (Finset.fold_hom (m := BitVec.toInt) minsi_toInt).symm
  rw [h]
  obtain ⟨i, hi, rfl⟩ := hw
  apply le_antisymm
  · exact (Finset.fold_min_le _).2 (Or.inr ⟨i, hi, le_rfl⟩)
  · refine (Finset.le_fold_min _).2 ⟨?_, hle⟩
    have := (f i).toInt_lt
    have e : (2147483647#32).toInt = 2147483647 := by decide
    rw [e]; omega

section Rounds

variable {N : ℕ} (hN : N ≤ 2 ^ 31) (key : Fin N → EReal) (h8 : 8 ≤ N)

/-- The `k`-th of the line. -/
abbrev nth (key : Fin N → EReal) (h8 : 8 ≤ N) (k : Fin 8) : Fin N := rank key (k.castLE h8)

variable (fl : IVec S64x128 32) (V : FVec Ideal S64x128 .f32)
  (live : ∀ p l, (⊥ : EReal) < V (ix2 p l) → ∃ g : Fin N, fl (ix2 p l) = BitVec.ofNat 32 g.val ∧ V (ix2 p l) = key g)
  (top : ∀ k : Fin 8, (⊥ : EReal) < key (nth key h8 k) ∧
    ∃ p l, fl (ix2 p l) = BitVec.ofNat 32 (nth key h8 k).val ∧ V (ix2 p l) = key (nth key h8 k))

include hN live top

/-- What is left after `k` rounds, and what the next round finds. -/
theorem rounds (k : ℕ) (hk : k ≤ 8) :
    (∀ p l, candAt (F := Ideal) ⊥ fl V k (ix2 p l)
      = if ∃ j : Fin 8, j.val < k ∧ fl (ix2 p l) = BitVec.ofNat 32 (nth key h8 j).val then (⊥ : EReal) else V (ix2 p l))
    ∧ ∀ h : k < 8, best (candAt (F := Ideal) ⊥ fl V k) = key (nth key h8 ⟨k, h⟩)
      ∧ bestAt fl (candAt (F := Ideal) ⊥ fl V k) = BitVec.ofNat 32 (nth key h8 ⟨k, h⟩).val := by
  have winj : ∀ a b : Fin N, BitVec.ofNat 32 a.val = BitVec.ofNat 32 b.val → a = b := fun a b e =>
    Fin.ext (ofNat_inj32 (by omega) (by omega) e)
  have wint : ∀ a : Fin N, (BitVec.ofNat 32 a.val).toInt = a.val := fun a => by
    rw [BitVec.toInt_eq_toNat_of_lt, BitVec.toNat_ofNat, Nat.mod_eq_of_lt (by omega)]
    rw [BitVec.toNat_ofNat, Nat.mod_eq_of_lt (by omega)]; omega
  -- the second half follows from the first
  have next : ∀ k (hk : k < 8), (∀ p l, candAt (F := Ideal) ⊥ fl V k (ix2 p l)
      = if ∃ j : Fin 8, j.val < k ∧ fl (ix2 p l) = BitVec.ofNat 32 (nth key h8 j).val then (⊥ : EReal) else V (ix2 p l)) →
      best (candAt (F := Ideal) ⊥ fl V k) = key (nth key h8 ⟨k, hk⟩)
      ∧ bestAt fl (candAt (F := Ideal) ⊥ fl V k) = BitVec.ofNat 32 (nth key h8 ⟨k, hk⟩).val := by
    intro k hk hc
    obtain ⟨hpos, p₀, l₀, hf₀, hv₀⟩ := top ⟨k, hk⟩
    -- a live candidate left is an entry that does not come before the k-th
    have left : ∀ p l, (⊥ : EReal) < candAt (F := Ideal) ⊥ fl V k (ix2 p l) → ∃ i : Fin N, k ≤ i.val
        ∧ fl (ix2 p l) = BitVec.ofNat 32 (rank key i).val ∧ candAt (F := Ideal) ⊥ fl V k (ix2 p l) = key (rank key i) := by
      intro p l h
      have hc' := hc p l
      by_cases hex : ∃ j : Fin 8, j.val < k ∧ fl (ix2 p l) = BitVec.ofNat 32 (nth key h8 j).val
      · rw [hc', if_pos hex] at h; exact absurd h (lt_irrefl _)
      · rw [if_neg hex] at hc'
        rw [hc'] at h ⊢
        obtain ⟨g, hg, hv⟩ := live p l h
        obtain ⟨i, rfl⟩ := rank_surjective key g
        refine ⟨i, ?_, hg, hv⟩
        by_contra hik
        exact hex ⟨⟨i.val, by omega⟩, by simpa using not_le.1 hik, hg⟩
    have at₀ : candAt (F := Ideal) ⊥ fl V k (ix2 p₀ l₀) = key (nth key h8 ⟨k, hk⟩) := by
      rw [hc, if_neg, hv₀]
      rintro ⟨j, hj, e⟩
      rw [hf₀] at e
      have := congrArg Fin.val (rank_injective key (winj _ _ e))
      simp at this
      omega
    have hbest : best (candAt (F := Ideal) ⊥ fl V k) = key (nth key h8 ⟨k, hk⟩) := by
      apply le_antisymm
      · rw [best_le]
        intro p l
        by_cases h : (⊥ : EReal) < candAt (F := Ideal) ⊥ fl V k (ix2 p l)
        · obtain ⟨i, hi, -, e⟩ := left p l h
          rw [e]
          exact rank_anti key _ _ hi
        · rw [not_bot_lt_iff.1 h]; exact bot_le
      · rw [← at₀]; exact (best_le _ _).1 le_rfl p₀ l₀
    refine ⟨hbest, ?_⟩
    rw [bestAt_eq]
    apply fold_minsi
    · exact ⟨(p₀, l₀), Finset.mem_univ _, by rw [if_pos (by rw [at₀, hbest])]; exact hf₀⟩
    · rintro ⟨p, l⟩ -
      dsimp only
      rw [wint]
      split
      case isTrue h =>
        rw [hbest] at h
        obtain ⟨i, hi, e, e'⟩ := left p l (by rw [h]; exact hpos)
        rw [e, wint]
        rcases hi.eq_or_lt with heq | hlt
        · rw [show i = (⟨k, hk⟩ : Fin 8).castLE h8 from Fin.ext heq.symm]
        · have := rank_ahead key ((⟨k, hk⟩ : Fin 8).castLE h8) i hlt
          simp only [ahead, above, Bool.or_eq_true, Bool.and_eq_true, decide_eq_true_eq] at this
          rcases this with h' | h'
          · rw [← e', h] at h'; exact absurd h' (lt_irrefl _)
          · exact_mod_cast h'.2.le
      case isFalse =>
        have e : (2147483647#32).toInt = 2147483647 := by decide
        have := (nth key h8 ⟨k, hk⟩).isLt
        rw [e]; omega
  have first : ∀ k, k ≤ 8 → ∀ p l, candAt (F := Ideal) ⊥ fl V k (ix2 p l)
      = if ∃ j : Fin 8, j.val < k ∧ fl (ix2 p l) = BitVec.ofNat 32 (nth key h8 j).val then (⊥ : EReal) else V (ix2 p l) := by
    intro k
    induction k with
    | zero => intro _ p l; rw [if_neg (fun ⟨j, hj, _⟩ => Nat.not_lt_zero _ hj)]; rfl
    | succ k ih =>
      intro hk p l
      have hc := ih (by omega)
      obtain ⟨hb, ha⟩ := next k hk hc
      rw [candAt, drop_at, hb, ha]
      by_cases hold : ∃ j : Fin 8, j.val < k ∧ fl (ix2 p l) = BitVec.ofNat 32 (nth key h8 j).val
      · have hnew : ∃ j : Fin 8, j.val < k + 1 ∧ fl (ix2 p l) = BitVec.ofNat 32 (nth key h8 j).val := by
          obtain ⟨j, hj, e⟩ := hold; exact ⟨j, by omega, e⟩
        rw [if_pos hnew, hc, if_pos hold, ite_self]
      · have hck := hc p l
        rw [if_neg hold] at hck
        rw [hck]
        by_cases hf : fl (ix2 p l) = BitVec.ofNat 32 (nth key h8 ⟨k, hk⟩).val
        · have hnew : ∃ j : Fin 8, j.val < k + 1 ∧ fl (ix2 p l) = BitVec.ofNat 32 (nth key h8 j).val := ⟨⟨k, hk⟩, Nat.lt_succ_self k, hf⟩
          rw [if_pos hnew]
          by_cases hl : (⊥ : EReal) < V (ix2 p l)
          · obtain ⟨g, hg, hv⟩ := live p l hl
            have : g = nth key h8 ⟨k, hk⟩ := winj _ _ (hg.symm.trans hf)
            rw [if_pos ⟨by rw [hv, this], hf⟩]
          · rw [not_bot_lt_iff.1 hl, ite_self]
        · rw [if_neg (fun h => hf h.2), if_neg]
          rintro ⟨j, hj, e⟩
          rcases Nat.lt_succ_iff_lt_or_eq.1 hj with h | h
          · exact hold ⟨j, h, e⟩
          · exact hf (e.trans (congrArg (fun q : Fin 8 => BitVec.ofNat 32 (nth key h8 q).val) (Fin.ext h)))
  exact ⟨first k hk, fun h => next k h (first k hk)⟩

end Rounds

/-- The row of scores at a place: what the round of its number found. -/
theorem scoresAt_at (fl : IVec S64x128 32) (V : FVec Ideal S64x128 .f32) (n : ℕ) (hn : n ≤ 8) (j : Fin 8) (hj : j.val < n) :
    scoresAt (F := Ideal) ⊥ fl V n (ix3 0 0 j) = best (candAt (F := Ideal) ⊥ fl V j.val) := by
  induction n with
  | zero => exact absurd hj (Nat.not_lt_zero _)
  | succ n ih =>
    unfold scoresAt lanes8
    pointwise
    show Scalar.select (BitVec.ofBool (decide (BitVec.ofNat 32 j.val = BitVec.ofNat 32 n))) _ _ = _
    rw [show decide (BitVec.ofNat 32 j.val = BitVec.ofNat 32 n) = decide (j.val = n) from decide_eq_decide.2 (word_eq_iff (by omega) (by omega))]
    by_cases h : j.val = n
    · simp [h, Scalar.select]
    · simp only [h, decide_false]; exact ih (by omega) (by omega)

/-- The row of flat positions at a place: what the round of its number found. -/
theorem flatsAt_at (fl : IVec S64x128 32) (V : FVec Ideal S64x128 .f32) (n : ℕ) (hn : n ≤ 8) (j : Fin 8) (hj : j.val < n) :
    flatsAt (F := Ideal) ⊥ fl V n (ix3 0 0 j) = bestAt fl (candAt (F := Ideal) ⊥ fl V j.val) := by
  induction n with
  | zero => exact absurd hj (Nat.not_lt_zero _)
  | succ n ih =>
    unfold flatsAt lanes8
    pointwise
    show Scalar.select (BitVec.ofBool (decide (BitVec.ofNat 32 j.val = BitVec.ofNat 32 n))) _ _ = _
    rw [show decide (BitVec.ofNat 32 j.val = BitVec.ofNat 32 n) = decide (j.val = n) from decide_eq_decide.2 (word_eq_iff (by omega) (by omega))]
    by_cases h : j.val = n
    · simp [h, Scalar.select]
    · simp only [h, decide_false]; exact ih (by omega) (by omega)

end Cert.Beam

end
-- ==== Proof.Words.lean ====
/-
  The column and the beam of a flat position below 800000, as the kernel and as the reference compute them with signed
  words.
-/
module

public import proofs.«01_k».proof.Proof.Step
public import Idealize.ShloMosaic.Lib.Pointwise
public import Idealize.ShloMosaic.Lib.Routing.Words

@[expose] public section

noncomputable section

namespace Cert.Beam

open Idealize.ShloMosaic

/-- A number below 2^31 is not negative as a signed word. -/
theorem slt_zero (g : ℕ) (hg : g < 2 ^ 31) : IntOp.cmpi .slt (BitVec.ofNat 32 g) 0#32 = 0#1 := by
  rw [show (0#32) = BitVec.ofNat 32 0 from rfl, WordCmp.cmpi_slt_ofNat hg (by decide)]
  simp

/-- The remainder by the vocabulary, given the divisor's sign. -/
theorem word_col (u : ArithUnit) (g : ℕ) (hg : g < 800000) (x : BitVec 1) (y : BitVec 32) :
    Scalar.select (IntOp.andi (IntOp.xori (IntOp.cmpi .slt (IntOp.remsi u (BitVec.ofNat 32 g) 100000#32) 0#32) 0#1) x)
      y (IntOp.remsi u (BitVec.ofNat 32 g) 100000#32) = BitVec.ofNat 32 (g % 100000) := by
  rw [show IntOp.remsi u (BitVec.ofNat 32 g) 100000#32 = BitVec.ofNat 32 (g % 100000) from
    Routing.remsi_word u (by omega) (by decide) (by decide), slt_zero _ (by omega)]
  simp [Scalar.select, IntOp.andi, IntOp.xori]

/-- The quotient by the vocabulary rounded down. -/
theorem word_row (u : ArithUnit) (g : ℕ) (hg : g < 800000) (x : BitVec 1) (hx : 0 < g → x = 0#1) (y : BitVec 32) :
    Scalar.select (IntOp.andi x (IntOp.cmpi .ne (IntOp.remsi u (BitVec.ofNat 32 g) 100000#32) 0#32))
      y (IntOp.divsi u (BitVec.ofNat 32 g) 100000#32) = BitVec.ofNat 32 (g / 100000) := by
  rw [show IntOp.divsi u (BitVec.ofNat 32 g) 100000#32 = BitVec.ofNat 32 (g / 100000) from
    Routing.divsi_word u (by omega) (by decide) (by decide)]
  rcases Nat.eq_zero_or_pos g with rfl | h
  · rw [show IntOp.remsi u (BitVec.ofNat 32 0) 100000#32 = BitVec.ofNat 32 (0 % 100000) from
      Routing.remsi_word u (by omega) (by decide) (by decide)]
    simp [Scalar.select, IntOp.andi, IntOp.cmpi]
  · rw [hx h]
    simp [Scalar.select, IntOp.andi]

/-- A positive number below 2^31 is positive as a signed word. -/
theorem sgt_zero (g : ℕ) (hg : g < 2 ^ 31) (h : 0 < g) : IntOp.cmpi .sgt (BitVec.ofNat 32 g) 0#32 = 1#1 := by
  have := WordCmp.cmpi_slt_ofNat (w := 32) (a := 0) (b := g) (by decide) hg
  rw [show IntOp.cmpi .sgt (BitVec.ofNat 32 g) 0#32 = IntOp.cmpi .slt (BitVec.ofNat 32 0) (BitVec.ofNat 32 g) from rfl, this]
  simp [h]

/-- The column of a flat position. -/
theorem colOf_at (f : IVec S1x1x8 32) (j : Fin 8) (g : ℕ) (hg : g < 800000) (hf : f (ix3 0 0 j) = BitVec.ofNat 32 g) :
    colOf f (ix3 0 0 j) = BitVec.ofNat 32 (g % 100000) := by
  unfold colOf
  pointwise
  rw [hf]
  exact word_col .vector g hg _ _

/-- The beam of a flat position. -/
theorem beamOf_at (b : ℕ) (f : IVec S1x1x8 32) (j : Fin 8) (g : ℕ) (hg : g < 800000) (hf : f (ix3 0 0 j) = BitVec.ofNat 32 g) :
    beamOf (BitVec.ofNat 32 b) f (ix3 0 0 j) = BitVec.ofNat 32 (g / 100000 + b * 8) := by
  unfold beamOf
  pointwise
  rw [hf, word_row .vector g hg _ (fun h => by rw [sgt_zero g (by omega) h, slt_zero g (by omega)]; decide) _]
  apply BitVec.eq_of_toNat_eq
  simp [IntOp.addi, Scalar.muli, IntOp.muli]

end Cert.Beam

end
-- ==== Proof.RowResult.lean ====
/-
  The result rows of a batch: where no beam has nine candidates reaching the eighth best score, and no masked end of
  sequence reaches it, the rows hold the scores, columns and beams of the first eight of the batch's line.
-/
module

public import proofs.«01_k».proof.Proof.RowState
public import proofs.«01_k».proof.Proof.Select
public import proofs.«01_k».proof.Proof.Words

@[expose] public section

noncomputable section

namespace Cert.Beam

open Idealize.ShloMosaic

/-- Fewer than nine entries of a line reach what its ninth is below. -/
theorem not_nine {n : ℕ} (key : Fin n → EReal) (h9 : 8 < n) (t : EReal) (h : key (rank key ⟨8, h9⟩) < t)
    (g : Option (Fin 8) → Fin n) (hg : Function.Injective g) : ¬∀ a, t ≤ key (g a) := by
  intro hall
  have early : ∀ a, ∃ i : Fin 8, rank key (i.castLE (by omega)) = g a := by
    intro a
    obtain ⟨i, hi⟩ := rank_surjective key (g a)
    have : i.val < 8 := by
      by_contra hge
      have := rank_anti key ⟨8, h9⟩ i (by show 8 ≤ i.val; omega)
      rw [hi] at this
      exact absurd (h.trans_le (hall a)) (not_lt.2 this)
    exact ⟨⟨i.val, this⟩, hi⟩
  choose f hf using early
  have hinj : Function.Injective f := fun a b e => hg (by rw [← hf a, ← hf b, e])
  have := Fintype.card_le_of_injective f hinj
  simp at this

/-- The eighth is the smallest of the first eight. -/
theorem nth_last {N : ℕ} (key : Fin N → EReal) (h8 : 8 ≤ N) (k : Fin 8) : key (nth key h8 7) ≤ key (nth key h8 k) :=
  rank_anti key _ _ (Fin.le_def.2 (Nat.le_of_lt_succ k.isLt))

/-- A batch has eight entries. -/
theorem eight_le : 8 ≤ 800000 := by decide

/-- A beam has nine columns. -/
theorem nine_le : 8 < 100000 := by decide

section

variable (X : Fin 8 → ℕ → EReal) (s : Fin 8 → EReal) (kept : Fin 8 → Prop) [DecidablePred kept] (neg : EReal)

/-- The score of column `c` of beam `r` with `neg` for the log-probability of an end of sequence not kept. -/
def refScore (r : Fin 8) (c : ℕ) : EReal := (if c = 2 ∧ ¬kept r then neg else X r c) + s r

/-- The batch's line of scores. -/
def line (g : Fin 800000) : EReal := refScore X s kept neg ⟨g.val / 100000, by omega⟩ (g.val % 100000)

/-- A beam's line of scores. -/
def beamLine (r : Fin 8) (c : Fin 100000) : EReal := refScore X s kept neg r c.val

variable {X s kept neg}

/-- Where a column has a score the two agree. -/
theorem final_eq (r : Fin 8) (c : ℕ) (h : ¬(c = 2 ∧ ¬kept r)) : final X s kept r c = refScore X s kept neg r c := by
  unfold final refScore score; rw [if_neg h, if_neg h]

/-- The column of a live item is not a masked end of sequence. -/
theorem final_live (r : Fin 8) (c : ℕ) (h : ⊥ < final X s kept r c) : ¬(c = 2 ∧ ¬kept r) := by
  intro h'; unfold final at h; rw [if_pos h'] at h; exact absurd h (lt_irrefl _)

variable (S : Slots Ideal) (hS : ∀ (r : Fin 8) (l : Fin 128), Holds (final X s kept r) (offered (final X s kept r) l.val) (S.at r l))
  (h1 : ∀ r : Fin 8, beamLine X s kept neg r (rank (beamLine X s kept neg r) ⟨8, nine_le⟩)
    < line X s kept neg (nth (line X s kept neg) eight_le 7))
  (h2 : ∀ r : Fin 8, kept r ∨ neg + s r < line X s kept neg (nth (line X s kept neg) eight_le 7))

include hS in
/-- A live candidate is an entry of the line. -/
theorem cand_live (p : Fin 64) (l : Fin 128) (h : (⊥ : EReal) < candOf S (ix2 p l)) :
    ∃ g : Fin 800000, flatOf S.I (ix2 p l) = BitVec.ofNat 32 g.val ∧ candOf S (ix2 p l) = line X s kept neg g := by
  obtain ⟨k, r, rfl⟩ : ∃ k r : Fin 8, p = ⟨8 * k.val + r.val, by omega⟩ :=
    ⟨⟨p.val / 8, by omega⟩, ⟨p.val % 8, by omega⟩, Fin.ext (by dsimp only; omega)⟩
  rw [candOf_at] at h ⊢
  rw [flatOf_at]
  obtain ⟨c, hc, e⟩ := (hS r l).held k h
  have e1 : S.T (ix3 k r l) = final X s kept r c := congrArg Prod.fst e
  have e2 : S.I (ix3 k r l) = BitVec.ofNat 32 c := congrArg Prod.snd e
  have hc' := (mem_offered _ _ _).1 hc
  have hr : (⟨(r.val * 100000 + c) / 100000, by have := r.isLt; omega⟩ : Fin 8) = r := Fin.ext (by dsimp only; omega)
  refine ⟨⟨r.val * 100000 + c, by have := r.isLt; omega⟩, ?_, ?_⟩
  · rw [e2, BitVec.ofNat_add]
  · rw [e1, final_eq (neg := neg) r c (final_live r c hc'.2.2)]
    unfold line
    dsimp only
    rw [hr, show (r.val * 100000 + c) % 100000 = c by omega]

include hS in
/-- A column whose score reaches `t` is among the candidates, where no beam has nine such columns and no masked end of
    sequence is one. -/
theorem cand_held (r : Fin 8) (c : ℕ) (hc : c < 100000) (t : EReal) (hpos : ⊥ < t) (hkt : t ≤ refScore X s kept neg r c)
    (h1r : beamLine X s kept neg r (rank (beamLine X s kept neg r) ⟨8, nine_le⟩) < t) (h2r : kept r ∨ neg + s r < t) :
    ∃ p l, flatOf S.I (ix2 p l) = BitVec.ofNat 32 (r.val * 100000 + c) ∧ candOf S (ix2 p l) = refScore X s kept neg r c := by
  have hm : ¬(c = 2 ∧ ¬kept r) := by
    intro h
    have := h2r.resolve_left h.2
    unfold refScore at hkt
    rw [if_pos h] at hkt
    exact absurd (this.trans_le hkt) (lt_irrefl _)
  have hf : final X s kept r c = refScore X s kept neg r c := final_eq r c hm
  have hlane : laneOf c < 128 := by unfold laneOf; split <;> omega
  obtain ⟨l, hl⟩ : ∃ l : Fin 128, l.val = laneOf c := ⟨⟨_, hlane⟩, rfl⟩
  have hH := hS r l
  have hmem : c ∈ offered (final X s kept r) l.val :=
    (mem_offered _ _ _).2 ⟨hc, hl.symm, by rw [hf]; exact hpos.trans_le hkt⟩
  have hin : ∃ k', S.at r l k' = (final X s kept r c, BitVec.ofNat 32 c) := by
    by_contra hno
    obtain ⟨q, hq, hq'⟩ := hH.dropped c hmem hno
    refine not_nine (beamLine X s kept neg r) nine_le t h1r
      (fun a => a.elim ⟨c, hc⟩ fun k => ⟨q k, ((mem_offered _ _ _).1 (hq' k).1).1⟩) ?_ ?_
    · intro a b e
      rcases a with _ | a <;> rcases b with _ | b
      · rfl
      · exact absurd (congrArg Fin.val e).symm (hq' b).2.1
      · exact absurd (congrArg Fin.val e) (hq' a).2.1
      · exact congrArg some (hq (congrArg Fin.val e))
    · intro a
      rcases a with _ | a
      · exact hkt
      · have hlive := ((mem_offered _ _ _).1 (hq' a).1).2.2
        show t ≤ refScore X s kept neg r (q a)
        rw [← final_eq (neg := neg) r (q a) (final_live r (q a) hlive)]
        exact (hkt.trans hf.ge).trans (hq' a).2.2
  obtain ⟨k', e⟩ := hin
  have e1 : S.T (ix3 k' r l) = final X s kept r c := congrArg Prod.fst e
  have e2 : S.I (ix3 k' r l) = BitVec.ofNat 32 c := congrArg Prod.snd e
  refine ⟨⟨8 * k'.val + r.val, by omega⟩, l, ?_, ?_⟩
  · rw [flatOf_at, e2, BitVec.ofNat_add]
  · rw [candOf_at, e1, hf]

include hS in
/-- An entry of the line that reaches `t` is among the candidates, under the same conditions. -/
theorem cand_line (g : Fin 800000) (t : EReal) (hpos : ⊥ < t) (hkt : t ≤ line X s kept neg g)
    (h1 : ∀ r : Fin 8, beamLine X s kept neg r (rank (beamLine X s kept neg r) ⟨8, nine_le⟩) < t)
    (h2 : ∀ r : Fin 8, kept r ∨ neg + s r < t) :
    ∃ p l, flatOf S.I (ix2 p l) = BitVec.ofNat 32 g.val ∧ candOf S (ix2 p l) = line X s kept neg g := by
  have h := cand_held (neg := neg) S hS ⟨g.val / 100000, by omega⟩ (g.val % 100000) (Nat.mod_lt _ (by omega)) t hpos hkt (h1 _) (h2 _)
  rwa [show (⟨g.val / 100000, by omega⟩ : Fin 8).val * 100000 + g.val % 100000 = g.val by dsimp only; omega] at h

include hS h1 h2 in
/-- The first eight of the line are among the candidates. -/
theorem cand_top (k : Fin 8) : ⊥ < line X s kept neg (nth (line X s kept neg) eight_le k) ∧
    ∃ p l, flatOf S.I (ix2 p l) = BitVec.ofNat 32 (nth (line X s kept neg) eight_le k).val
      ∧ candOf S (ix2 p l) = line X s kept neg (nth (line X s kept neg) eight_le k) :=
  have hkt := nth_last (line X s kept neg) eight_le k
  have hpos := bot_le.trans_lt (h1 0)
  ⟨hpos.trans_le hkt, cand_line S hS _ _ hpos hkt h1 h2⟩

include hS h1 h2 in
/-- The three result rows. -/
theorem rows_at (b : ℕ) (j : Fin 8) :
    out0 (F := Ideal) ⊥ S (ix3 0 0 j) = line X s kept neg (nth (line X s kept neg) eight_le j)
    ∧ out1 (F := Ideal) ⊥ S (ix3 0 0 j) = BitVec.ofNat 32 ((nth (line X s kept neg) eight_le j).val % 100000)
    ∧ out2 (F := Ideal) ⊥ (BitVec.ofNat 32 b) S (ix3 0 0 j)
      = BitVec.ofNat 32 ((nth (line X s kept neg) eight_le j).val / 100000 + b * 8) := by
  have hR := (rounds (by decide) (line X s kept neg) eight_le (flatOf S.I) (candOf S) (cand_live S hS) (cand_top S hS h1 h2)
    j.val j.isLt.le).2 j.isLt
  have hf : flatsAt (F := Ideal) ⊥ (flatOf S.I) (candOf S) 8 (ix3 0 0 j) = BitVec.ofNat 32 (nth (line X s kept neg) eight_le j).val :=
    (flatsAt_at _ _ 8 le_rfl j j.isLt).trans hR.2
  refine ⟨(scoresAt_at _ _ 8 le_rfl j j.isLt).trans hR.1, colOf_at _ j _ (Fin.isLt _) hf, beamOf_at b _ j _ (Fin.isLt _) hf⟩

end

end Cert.Beam

end
-- ==== Proof.RowWalk.lean ====
/-
  The carried buffers at every point of a batch's walk, and the rows the batch's last point stores.
-/
module

public import proofs.«01_k».proof.Proof.Rows
public import proofs.«01_k».proof.Proof.RowResult

@[expose] public section

noncomputable section

namespace Cert.KernelIdeal

open Cert.KernelIdeal.Gen
open Idealize.ShloMosaic Idealize.ShloMosaic.TcCoe Idealize.SL.Sem

variable (m : (ℓ : Loc nD τ sig) → Buf (Elt Ideal) ℓ) (c : Dev nD) (b : Fin 32)

/-- The mask is minus infinity. -/
theorem mask_bot : mask (F := Ideal) = (⊥ : EReal) := IdealRules.named_const.ideal_named_scalar _ _ _ _ rfl

/-- The log-probabilities of batch `b`. -/
abbrev lp : Fin 8 → ℕ → EReal := Beam.lpRow (m ((c : Thread nD τ).loc main_arg0)) b
/-- The sequence scores of batch `b`. -/
abbrev sq : Fin 8 → EReal := Beam.sqRow (m ((c : Thread nD τ).loc main_arg1)) b

/-- One step of the walk. -/
theorem walked_block (v : ℕ) (hv : v < 49) (t : Fin cfg0.N) (ht : t.val = 49 * b.val + v)
    (h : v = 0 ∨ Beam.Walked (lp m c b) (sq m c b) (2048 * v) (state m c t.val)) :
    Beam.Walked (lp m c b) (sq m c b) (2048 * (v + 1))
      (Beam.bodyC (F := Ideal) ⊥ (BitVec.ofNat 32 v) (xblk m c t) (sblk m c t) (state m c t.val)) :=
  Beam.Walked.block v hv _ _ (fun r l hl => xblk_at m c t b v (by omega) (by omega) r l hl) (fun r => sblk_at m c t b (by omega) r) _ h

/-- The buffers before every point of a batch but its first. -/
theorem walked_state (v : ℕ) (hv : v ≤ 48) : v = 0 ∨ Beam.Walked (lp m c b) (sq m c b) (2048 * v) (state m c (49 * b.val + v)) := by
  induction v with
  | zero => exact Or.inl rfl
  | succ v ih =>
    right
    have hN : 49 * b.val + v < cfg0.N := by rw [show cfg0.N = 1568 from N_0]; omega
    have hs := state_succ m c ⟨49 * b.val + v, hN⟩
    have hcv : (grid0.coords ⟨49 * b.val + v, hN⟩ 1).val = v := by rw [coord_v]; dsimp only; omega
    rw [hcv, mask_bot] at hs
    unfold Beam.stepC at hs
    rw [if_neg (fun h => by have := (Beam.last_iff v (by omega)).1 h; omega)] at hs
    rw [← Nat.add_assoc]
    rw [show state m c (49 * b.val + v + 1) = _ from hs]
    exact walked_block m c b v (by omega) ⟨49 * b.val + v, hN⟩ rfl (ih (by omega))

/-- The slots and the results of a batch's last point. -/
theorem rows_last (t : Fin cfg0.N) (ht : t.val = 49 * b.val + 48) (M : Fin 8 → EReal)
    (hM : ∀ r y, M r ≤ y ↔ ∀ k, k < 100000 → lp m c b r k ≤ y) (kept : Fin 8 → Prop) [DecidablePred kept]
    (hk : ∀ r, kept r ↔ Ideal.ofBits .f32 0x3FC00000#32 * M r < lp m c b r 2) (neg : EReal)
    (h1 : ∀ r : Fin 8, Beam.beamLine (lp m c b) (sq m c b) kept neg r
        (Beam.rank (Beam.beamLine (lp m c b) (sq m c b) kept neg r) ⟨8, Beam.nine_le⟩)
      < Beam.line (lp m c b) (sq m c b) kept neg (Beam.nth (Beam.line (lp m c b) (sq m c b) kept neg) Beam.eight_le 7))
    (h2 : ∀ r : Fin 8, kept r ∨ neg + sq m c b r
      < Beam.line (lp m c b) (sq m c b) kept neg (Beam.nth (Beam.line (lp m c b) (sq m c b) kept neg) Beam.eight_le 7)) (j : Fin 8) :
    (dats m 0 c).after 2 t (ix3 0 0 j)
        = Beam.line (lp m c b) (sq m c b) kept neg (Beam.nth (Beam.line (lp m c b) (sq m c b) kept neg) Beam.eight_le j)
    ∧ (dats m 0 c).after 3 t (ix3 0 0 j)
        = BitVec.ofNat 32 ((Beam.nth (Beam.line (lp m c b) (sq m c b) kept neg) Beam.eight_le j).val % 100000)
    ∧ (dats m 0 c).after 4 t (ix3 0 0 j)
        = BitVec.ofNat 32 ((Beam.nth (Beam.line (lp m c b) (sq m c b) kept neg) Beam.eight_le j).val / 100000 + b.val * 8) := by
  have hcv : (grid0.coords t 1).val = 48 := by rw [coord_v]; omega
  have hcb : (grid0.coords t 0).val = b.val := by rw [coord_b]; omega
  have hs := state_succ m c t
  rw [hcv, mask_bot] at hs
  unfold Beam.stepC at hs
  rw [if_pos ((Beam.last_iff 48 (by decide)).2 rfl)] at hs
  have hw := walked_block m c b 48 (by decide) t ht (by rw [ht]; exact walked_state m c b 48 le_rfl)
  have hm : ∀ r, (Beam.bodyC (F := Ideal) ⊥ (BitVec.ofNat 32 48) (xblk m c t) (sblk m c t) (state m c t.val)).m (ix2 r 0) = M r := fun r =>
    eq_of_forall_ge_iff fun y => by
      rw [hw.most, hM]
      exact ⟨fun h k hk => h k (by omega) hk, fun h k _ hk => h k hk⟩
  have hS := Beam.closeS_at _ hw (sblk m c t) (fun r => sblk_at m c t b (by omega) r) kept (fun r => by rw [hm, hk])
  have hR := Beam.rows_at (neg := neg) _ hS h1 h2 b.val j
  show Beam.out0 (mask (F := Ideal)) (state m c (t.val + 1)).S (ix3 0 0 j) = _ ∧ Beam.out1 (mask (F := Ideal)) (state m c (t.val + 1)).S (ix3 0 0 j) = _
    ∧ Beam.out2 (mask (F := Ideal)) (BitVec.ofNat 32 (grid0.coords t 0).val) (state m c (t.val + 1)).S (ix3 0 0 j) = _
  rw [hs, mask_bot, hcb]
  exact hR

end Cert.KernelIdeal

end
-- ==== Proof.HostRows.lean ====
/-
  The reference's scores, batch by batch: the end-of-sequence flag, the scores by beam and column, and the batch's line.
-/
module

public import proofs.«01_k».proof.Proof.Casts
public import proofs.«01_k».proof.Proof.RowResult
public import proofs.«01_k».proof.Proof.Gen.ReferenceIdeal

@[expose] public section

noncomputable section

namespace Cert.ReferenceIdeal

open Cert.ReferenceIdeal.Gen
open Idealize.ShloMosaic Idealize.ShloMosaic.TcCoe

variable (A : FVec Ideal S256x100000 .f32) (B : FVec Ideal S256 .f32)

/-- The largest log-probability of each row. -/
def rowTop : FVec Ideal S256 .f32 :=
  Host.reduce FloatOps.maximumf A (constant S_ .f32 0xFF800000#32) reducesTo_S256x100000_S256_d1 h_S_

/-- Whether each row keeps its end of sequence. -/
def keepFlag : IVec S256 1 :=
  cmpf .ogt (shapeCast S256 (extractStridedSlice S256x1 ![0, 2] A slices_S256x100000_S256x1_0_2) shapeCasts_S256x1_S256)
    (mulf (broadcastInDim S256 ![] bcast_S_S256 (constant S_ .f32 0x3FC00000#32)) (rowTop A))

/-- The scores by row and column. -/
def scores : FVec Ideal S256x100000 .f32 :=
  addf (select (andi (broadcastInDim S256x100000 ![0, 1] bcast_S1x100000_S256x100000_0_1 (broadcastInDim S1x100000 ![1] bcast_S100000_S1x100000_1 (cmpi .eq (iotaInDim S100000 32 0) (broadcastInDim S100000 ![] bcast_S_S100000 (constantI S_ 32 2#32)))))
      (broadcastInDim S256x100000 ![0, 1] bcast_S256x1_S256x100000_0_1 (broadcastInDim S256x1 ![0] bcast_S256_S256x1_0 (noti (keepFlag A)))))
    (broadcastInDim S256x100000 ![] bcast_S_S256x100000 (constant S_ .f32 0xE0AD78EC#32)) A)
    (broadcastInDim S256x100000 ![0, 1] bcast_S256x1_S256x100000_0_1 (broadcastInDim S256x1 ![0] bcast_S256_S256x1_0 B))

/-- The scores by batch. -/
def joined : FVec Ideal S32x800000 .f32 := shapeCast S32x800000 (scores A B) shapeCasts_S256x100000_S32x800000

/-- The largest log-probability of a row is at most what every column is at most. -/
theorem rowTop_le (i : Fin 256) (y : EReal) : rowTop A (ix1 i) ≤ y ↔ ∀ k : Fin 100000, A (ix2 i k) ≤ y := by
  unfold rowTop
  pointwise
  rw [show Ideal.ofBits .f32 0xFF800000#32 = (⊥ : EReal) by simp [Ideal.ofBits, Ideal.ieee], Finset.fold_max_le]
  simp

/-- A comparison with a multiple. -/
theorem flag_at (w : BitVec 32) (e t : FVec Ideal S256 .f32) (i : Fin 256) :
    cmpf .ogt e (mulf (broadcastInDim S256 ![] bcast_S_S256 (constant S_ .f32 w)) t) (ix1 i) = 1#1
      ↔ Ideal.ofBits .f32 w * t (ix1 i) < e (ix1 i) := by
  pointwise
  by_cases h : Ideal.ofBits .f32 w * t (ix1 i) < e (ix1 i) <;> simp [h]

/-- The flag of a row. -/
theorem keepFlag_at (i : Fin 256) (k : Fin 100000) (hk : k.val = 2) : keepFlag A (ix1 i) = 1#1
    ↔ Ideal.ofBits .f32 0x3FC00000#32 * rowTop A (ix1 i) < A (ix2 i k) := by
  obtain ⟨k, h⟩ := k
  obtain rfl : k = 2 := hk
  rw [← Beam.column_flat h A slices_S256x100000_S256x1_0_2 shapeCasts_S256x1_S256 i]
  exact flag_at _ _ _ i

/-- The score of a row's column. -/
theorem scores_at (i : Fin 256) (k : Fin 100000) : scores A B (ix2 i k)
    = (if k.val = 2 ∧ ¬keepFlag A (ix1 i) = 1#1 then Ideal.ofBits .f32 0xE0AD78EC#32 else A (ix2 i k)) + B (ix1 i) := by
  unfold scores
  generalize keepFlag A = f
  pointwise
  congr 1
  rw [show IntOp.cmpi .eq (BitVec.ofNat 32 k.val) 2#32 = BitVec.ofBool (decide (k.val = 2)) from ?_]
  · rcases BitVec.eq_zero_or_eq_one (f (ix1 i)) with h | h <;> by_cases h2 : k.val = 2 <;> simp [h, h2, Scalar.select, IntOp.andi]
  · show BitVec.ofBool (BitVec.ofNat 32 k.val == 2#32) = _
    congr 1
    rw [beq_eq_decide]
    apply decide_eq_decide.2
    rw [← BitVec.toNat_inj, BitVec.toNat_ofNat, Nat.mod_eq_of_lt (by omega)]
    rfl

/-- Whether beam `r` of batch `b` keeps its end of sequence. -/
def kept (b : Fin 32) (r : Fin 8) : Prop := keepFlag A (ix1 ⟨b.val * 8 + r.val, by omega⟩) = 1#1

instance (b : Fin 32) : DecidablePred (kept A b) := fun r => by unfold kept; infer_instance

/-- The reference's score of a masked end of sequence, without the beam's. -/
abbrev masked : EReal := Ideal.ofBits .f32 0xE0AD78EC#32

/-- The line of batch `b`. -/
abbrev lineOf (b : Fin 32) : Fin 800000 → EReal := Beam.line (Beam.lpRow A b) (Beam.sqRow B b) (kept A b) masked

/-- The line of beam `r` of batch `b`. -/
abbrev beamOf (b : Fin 32) (r : Fin 8) : Fin 100000 → EReal := Beam.beamLine (Beam.lpRow A b) (Beam.sqRow B b) (kept A b) masked r

/-- The score of a beam's column. -/
theorem scores_beam (b : Fin 32) (r : Fin 8) (i : Fin 256) (hi : i.val = b.val * 8 + r.val) (k : Fin 100000) :
    scores A B (ix2 i k) = Beam.refScore (Beam.lpRow A b) (Beam.sqRow B b) (kept A b) masked r k.val := by
  obtain ⟨i, h⟩ := i
  obtain rfl : i = b.val * 8 + r.val := hi
  rw [scores_at]
  unfold Beam.refScore Beam.lpRow Beam.sqRow kept
  rw [dif_pos k.isLt]

/-- The scores of a batch are its line. -/
theorem joined_line (b : Fin 32) : (fun g => joined A B (ix2 b g)) = lineOf A B b := by
  funext g
  unfold joined
  rw [Beam.join_rows (q := 8) (n := 100000) rfl rfl (by decide) (scores A B) shapeCasts_S256x100000_S32x800000 b g ⟨g.val / 100000, by omega⟩ rfl]
  exact scores_beam A B b _ _ rfl _

/-- The scores of a row are its beam's line. -/
theorem scores_line (b : Fin 32) (r : Fin 8) (i : Fin 256) (hi : i.val = b.val * 8 + r.val) : (fun k => scores A B (ix2 i k)) = beamOf A B b r :=
  funext fun k => scores_beam A B b r i hi k

end Cert.ReferenceIdeal

end
-- ==== Proof.HostWords.lean ====
/-
  The reference's columns and beams of the flat positions it selects.
-/
module

public import proofs.«01_k».proof.Proof.Casts
public import proofs.«01_k».proof.Proof.Words
public import proofs.«01_k».proof.Proof.Gen.ReferenceIdeal

@[expose] public section

noncomputable section

namespace Cert.ReferenceIdeal

open Cert.ReferenceIdeal.Gen
open Idealize.ShloMosaic Idealize.ShloMosaic.TcCoe

/-- The vocabulary's size, or one were it zero. -/
abbrev divisor : IVec S_ 32 :=
  select (cmpi .eq (id (constantI S_ 32 100000#32)) (constantI S_ 32 0#32)) (constantI S_ 32 1#32) (id (constantI S_ 32 100000#32))

/-- The column of each flat position. -/
def columnOf (idx : IVec S32x8 32) : IVec S32x8 32 :=
  select (andi (cmpi .ne (cmpi .slt (Host.remsi idx (broadcastInDim S32x8 ![] bcast_S_S32x8 divisor)) (broadcastInDim S32x8 ![] bcast_S_S32x8 (constantI S_ 32 0#32)))
      (broadcastInDim S32x8 ![] bcast_S_S32x8 (cmpi .slt divisor (constantI S_ 32 0#32))))
    (cmpi .ne (Host.remsi idx (broadcastInDim S32x8 ![] bcast_S_S32x8 divisor)) (broadcastInDim S32x8 ![] bcast_S_S32x8 (constantI S_ 32 0#32))))
    (addi (Host.remsi idx (broadcastInDim S32x8 ![] bcast_S_S32x8 divisor)) (broadcastInDim S32x8 ![] bcast_S_S32x8 divisor))
    (Host.remsi idx (broadcastInDim S32x8 ![] bcast_S_S32x8 divisor))

/-- The beam's row of each flat position. -/
def beamRow (idx : IVec S32x8 32) : IVec S32x8 32 :=
  addi (select (andi (cmpi .ne (signi idx) (broadcastInDim S32x8 ![] bcast_S_S32x8 (signi (id (constantI S_ 32 100000#32)))))
      (cmpi .ne (Host.remsi idx (broadcastInDim S32x8 ![] bcast_S_S32x8 (id (constantI S_ 32 100000#32)))) (broadcastInDim S32x8 ![] bcast_S_S32x8 (constantI S_ 32 0#32))))
    (subi (Host.divsi idx (broadcastInDim S32x8 ![] bcast_S_S32x8 (id (constantI S_ 32 100000#32)))) (broadcastInDim S32x8 ![] bcast_S_S32x8 (constantI S_ 32 1#32)))
    (Host.divsi idx (broadcastInDim S32x8 ![] bcast_S_S32x8 (id (constantI S_ 32 100000#32)))))
    (broadcastInDim S32x8 ![0, 1] bcast_S32x1_S32x8_0_1 (muli (broadcastInDim S32x1 ![0] bcast_S32_S32x1_0 (iotaInDim S32 32 0)) (broadcastInDim S32x1 ![] bcast_S_S32x1 (constantI S_ 32 8#32))))

/-- A bit differs from a zero bit when it is one. -/
theorem bit_ne (a : BitVec 1) : IntOp.cmpi .ne a 0#1 = IntOp.xori a 0#1 := by
  rcases BitVec.eq_zero_or_eq_one a with rfl | rfl <;> decide

/-- The column of a flat position. -/
theorem columnOf_at (idx : IVec S32x8 32) (b : Fin 32) (j : Fin 8) (g : ℕ) (hg : g < 800000) (h : idx (ix2 b j) = BitVec.ofNat 32 g) :
    columnOf idx (ix2 b j) = BitVec.ofNat 32 (g % 100000) := by
  unfold columnOf divisor
  pointwise
  rw [h, show id (constantI S_ 32 100000#32) ix0 = 100000#32 from rfl,
    show Scalar.select (IntOp.cmpi .eq 100000#32 0#32) 1#32 100000#32 = 100000#32 by decide,
    show IntOp.cmpi .slt 100000#32 0#32 = 0#1 by decide, bit_ne]
  exact Beam.word_col .host g hg _ _

/-- The beam's row of a flat position. -/
theorem beamRow_at (idx : IVec S32x8 32) (b : Fin 32) (j : Fin 8) (g : ℕ) (hg : g < 800000) (h : idx (ix2 b j) = BitVec.ofNat 32 g) :
    beamRow idx (ix2 b j) = BitVec.ofNat 32 (g / 100000 + b.val * 8) := by
  unfold beamRow
  pointwise
  rw [h, show id (constantI S_ 32 100000#32) ix0 = 100000#32 from rfl, Beam.word_row .host g hg _ (fun hp => ?_) _]
  · apply BitVec.eq_of_toNat_eq
    simp [IntOp.addi, IntOp.muli]
  · have e : BitVec.ofNat 32 g ≠ 0 := fun e => by
      have := congrArg BitVec.toNat e
      rw [BitVec.toNat_ofNat, Nat.mod_eq_of_lt (by omega)] at this
      simp at this; omega
    have e' : (BitVec.ofNat 32 g).msb = false := by
      rw [BitVec.msb_eq_decide, BitVec.toNat_ofNat, Nat.mod_eq_of_lt (by omega)]
      simp; omega
    rw [if_neg e, e']
    decide

end Cert.ReferenceIdeal

end
-- ==== Proof.HostResults.lean ====
/-
  The reference's three results, and what the precondition says of a batch's line and of its beams' lines.
-/
module

public import proofs.«01_k».proof.Proof.HostRows
public import proofs.«01_k».proof.Proof.HostWords
public import proofs.«01_k».proof.Proof.Rank
public import proofs.«01_k».proof.Proof.Gen.ReferenceIdeal.Run
public import proofs.«01_k».proof.Proof.Gen.Pre_cut_clear

@[expose] public section

noncomputable section

namespace Cert.Beam

open Idealize.ShloMosaic

/-- The values of a top-k of a row known as a line. -/
theorem topK_value_of {a n k : ℕ} (x : FVec Ideal ⟨2, ![a, n]⟩ .f32) (h : (⟨2, ![a, n]⟩ : Shape).Slices (fun _ => 0) ⟨2, ![a, k]⟩)
    (hk : k ≤ n) (r : Fin a) (key : Fin n → EReal) (e : (fun c => x (ix2 r c)) = key) (j : Fin k) :
    (Host.topK ⟨2, ![a, k]⟩ 1 (FloatOps.cmpfTotal .gt) x h).1 (ix2 r j) = key (rank key (j.castLE hk)) := by
  subst e
  exact topK_values x h hk r j

/-- The places of a top-k of a row known as a line. -/
theorem topK_place_of {a n k : ℕ} (x : FVec Ideal ⟨2, ![a, n]⟩ .f32) (h : (⟨2, ![a, n]⟩ : Shape).Slices (fun _ => 0) ⟨2, ![a, k]⟩)
    (hk : k ≤ n) (r : Fin a) (key : Fin n → EReal) (e : (fun c => x (ix2 r c)) = key) (j : Fin k) :
    (Host.topK ⟨2, ![a, k]⟩ 1 (FloatOps.cmpfTotal .gt) x h).2 (ix2 r j) = BitVec.ofNat 32 (rank key (j.castLE hk)).val := by
  subst e
  exact topK_places x h hk r j

end Cert.Beam

namespace Cert.ReferenceIdeal

open Cert.ReferenceIdeal.Gen
open Idealize.ShloMosaic Idealize.ShloMosaic.TcCoe Idealize.SL.Sem

variable (A : FVec Ideal S256x100000 .f32) (B : FVec Ideal S256 .f32)

/-- The flat positions of a batch's first eight. -/
abbrev place (b : Fin 32) (j : Fin 8) : Fin 800000 := Beam.nth (lineOf A B b) Beam.eight_le j

/-- The first eight of every batch. -/
abbrev best : FVec Ideal S32x8 .f32 × IVec S32x8 32 :=
  Host.topK S32x8 1 (FloatOps.cmpfTotal .gt) (joined A B) sliceFits_S32x800000_S32x8

/-- The scores of a batch's first eight. -/
theorem best_score (b : Fin 32) (j : Fin 8) : (best A B).1 (ix2 b j) = lineOf A B b (place A B b j) :=
  Beam.topK_value_of (joined A B) sliceFits_S32x800000_S32x8 Beam.eight_le b (lineOf A B b) (joined_line A B b) j

/-- The positions of a batch's first eight. -/
theorem best_place (b : Fin 32) (j : Fin 8) : (best A B).2 (ix2 b j) = BitVec.ofNat 32 (place A B b j).val :=
  Beam.topK_place_of (joined A B) sliceFits_S32x800000_S32x8 Beam.eight_le b (lineOf A B b) (joined_line A B b) j

/-- The scores. -/
theorem result_scores : (best A B).1 = Beam.flatRows fun b j => lineOf A B b (place A B b j) := by
  funext i
  rw [eq_ix2 i]
  exact best_score A B _ _

/-- The columns. -/
theorem result_columns : columnOf (best A B).2 = Beam.flatRows fun b j => BitVec.ofNat 32 ((place A B b j).val % 100000) := by
  funext i
  rw [eq_ix2 i]
  exact columnOf_at _ _ _ _ (place A B _ _).isLt (best_place A B _ _)

/-- The beams' rows. -/
theorem result_beams : beamRow (best A B).2 = Beam.flatRows fun b j => BitVec.ofNat 32 ((place A B b j).val / 100000 + b.val * 8) := by
  funext i
  rw [eq_ix2 i]
  exact beamRow_at _ _ _ _ (place A B _ _).isLt (best_place A B _ _)

/-- The reference's run. -/
theorem run_rows (m : (ℓ : Loc nD τ sig) → Buf (Elt Ideal) ℓ) (ρ : Dev nD → PrngReg)
    (A : Dev nD → FVec Ideal S256x100000 .f32) (B : Dev nD → FVec Ideal S256 .f32)
    (hA : ∀ c : Dev nD, m ((c.tc : Thread nD τ).loc main_arg0) = A c) (hB : ∀ c : Dev nD, m ((c.tc : Thread nD τ).loc main_arg1) = B c) :
    θ_run defs (onTc (τ := τ) (main (F := Ideal))) ⟨m, fun _ => 0, ρ⟩ (fun r => ∀ c : Dev nD,
      r.2.mem ((c.tc : Thread nD τ).loc main_values) = Beam.flatRows (fun b j => lineOf (A c) (B c) b (place (A c) (B c) b j))
      ∧ r.2.mem ((c.tc : Thread nD τ).loc main_v20) = Beam.flatRows (fun b j => BitVec.ofNat 32 ((place (A c) (B c) b j).val % 100000))
      ∧ r.2.mem ((c.tc : Thread nD τ).loc main_v27) = Beam.flatRows (fun b j => BitVec.ofNat 32 ((place (A c) (B c) b j).val / 100000 + b.val * 8))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => by
    obtain ⟨h0, h1, h2, h3, h4⟩ := hr c
    have e1 : Value.res_main_v20 m c = columnOf (best (m ((c.tc : Thread nD τ).loc main_arg0)) (m ((c.tc : Thread nD τ).loc main_arg1))).2 := rfl
    have e2 : Value.res_main_v27 m c = beamRow (best (m ((c.tc : Thread nD τ).loc main_arg0)) (m ((c.tc : Thread nD τ).loc main_arg1))).2 := rfl
    rw [hA, hB] at e1 e2
    have h0' : _ = (best (m ((c.tc : Thread nD τ).loc main_arg0)) (m ((c.tc : Thread nD τ).loc main_arg1))).1 := h0
    rw [hA, hB] at h0'
    exact ⟨h0'.trans (result_scores _ _), h1.trans (e1.trans (result_columns _ _)), h2.trans (e2.trans (result_beams _ _)), h3, h4⟩)
    (Value.run (F := Ideal) m ρ)

/-- The ninth of a beam. -/
theorem ninth (b : Fin 32) (r : Fin 8) (i : Fin 256) (hi : i.val = b.val * 8 + r.val) (h : S256x100000.Slices (fun _ => 0) ⟨2, ![256, 9]⟩) :
    (Host.topK ⟨2, ![256, 9]⟩ 1 (FloatOps.cmpfTotal .gt) (scores A B) h).1 (ix2 i ⟨8, by decide⟩)
      = beamOf A B b r (Beam.rank (beamOf A B b r) ⟨8, Beam.nine_le⟩) :=
  Beam.topK_value_of (scores A B) h Beam.nine_le i (beamOf A B b r) (scores_line A B b r i hi) ⟨8, by decide⟩

end Cert.ReferenceIdeal

end
-- ==== Proof.CutClear.lean ====
/-
  What the precondition says: no beam has nine candidates reaching the batch's eighth best score, and no masked end of
  sequence reaches it.
-/
module

public import proofs.«01_k».proof.Proof.HostResults

@[expose] public section

noncomputable section

namespace Cert.ReferenceIdeal

open Cert.ReferenceIdeal.Gen
open Idealize.ShloMosaic Idealize.ShloMosaic.TcCoe Idealize.SL.Sem

variable (A : FVec Ideal S256x100000 .f32) (B : FVec Ideal S256 .f32)

/-- A word spread along the last axis. -/
theorem spread_at {α : Type} (x : Pre_cut_clear.S32x1.Idx → α) (b : Fin 32) (r : Fin 8) :
    broadcastInDim Pre_cut_clear.S32x8 ![0, 1] Pre_cut_clear.Facts.bcast_S32x1_S32x8_0_1 x (ix2 b r) = x (ix2 b 0) := by
  pointwise

/-- A comparison is the order. -/
theorem below_at (x y : FVec Ideal Pre_cut_clear.S32x8 .f32) (i : Pre_cut_clear.S32x8.Idx) : cmpf .olt x y i = 1#1 ↔ x i < y i := by
  show BitVec.ofBool (decide (x i < y i)) = 1#1 ↔ _
  by_cases h : x i < y i <;> simp [h]

/-- The eighth best score, spread over a batch's beams. -/
theorem eighth_at (b : Fin 32) (r : Fin 8) :
    broadcastInDim Pre_cut_clear.S32x8 ![0, 1] Pre_cut_clear.Facts.bcast_S32x1_S32x8_0_1
      (extractStridedSlice Pre_cut_clear.S32x1 ![0, 7] (best A B).1 Pre_cut_clear.Facts.slices_S32x8_S32x1_0_7) (ix2 b r)
      = lineOf A B b (place A B b 7) := by
  rw [spread_at, Beam.column_at (p := 7) (by decide)]
  exact best_score A B b 7

/-- The first condition: a beam's ninth is below the batch's eighth. -/
theorem clear_ninth (h : (Pre_cut_clear.fn (F := Ideal) A B).1 = fun _ => 1#1) (b : Fin 32) (r : Fin 8) :
    beamOf A B b r (Beam.rank (beamOf A B b r) ⟨8, Beam.nine_le⟩) < lineOf A B b (place A B b 7) := by
  have e : (Pre_cut_clear.fn (F := Ideal) A B).1 = cmpf .olt
      (shapeCast Pre_cut_clear.S32x8 (shapeCast Pre_cut_clear.S256 (extractStridedSlice Pre_cut_clear.S256x1 ![0, 8]
        (Host.topK Pre_cut_clear.S256x9 1 (FloatOps.cmpfTotal .gt) (scores A B) Pre_cut_clear.Facts.sliceFits_S256x100000_S256x9).1
        Pre_cut_clear.Facts.slices_S256x9_S256x1_0_8) Pre_cut_clear.Facts.shapeCasts_S256x1_S256) Pre_cut_clear.Facts.shapeCasts_S256_S32x8)
      (broadcastInDim Pre_cut_clear.S32x8 ![0, 1] Pre_cut_clear.Facts.bcast_S32x1_S32x8_0_1
        (extractStridedSlice Pre_cut_clear.S32x1 ![0, 7] (best A B).1 Pre_cut_clear.Facts.slices_S32x8_S32x1_0_7)) := rfl
  have h' := (below_at _ _ (ix2 b r)).1 ((congrFun e (ix2 b r)).symm.trans (congrFun h (ix2 b r)))
  rw [eighth_at, Beam.split_words (q := 8) rfl, Beam.column_flat (p := 8) (by decide), ninth A B b r _ rfl] at h'
  exact h'

/-- The masked score of a row. -/
theorem masked_at (w : BitVec 32) (i : Fin 256) :
    addf (broadcastInDim Pre_cut_clear.S256 ![] Pre_cut_clear.Facts.bcast_S_S256 (constant (F := Ideal) Pre_cut_clear.S_ .f32 w)) B (ix1 i)
      = Ideal.ofBits .f32 w + B (ix1 i) := by
  pointwise

/-- An alternative of bits. -/
theorem either_at (x y : IVec Pre_cut_clear.S32x8 1) (i : Pre_cut_clear.S32x8.Idx) : ori x y i = 1#1 → x i = 1#1 ∨ y i = 1#1 := by
  show IntOp.ori (x i) (y i) = 1#1 → _
  rcases BitVec.eq_zero_or_eq_one (x i) with h | h <;> rcases BitVec.eq_zero_or_eq_one (y i) with h' | h' <;> simp [h, h', IntOp.ori]

/-- The second condition: a masked end of sequence is below the batch's eighth. -/
theorem clear_masked (h : (Pre_cut_clear.fn (F := Ideal) A B).2 = fun _ => 1#1) (b : Fin 32) (r : Fin 8) :
    kept A b r ∨ masked + Beam.sqRow B b r < lineOf A B b (place A B b 7) := by
  have e : (Pre_cut_clear.fn (F := Ideal) A B).2 = ori (shapeCast Pre_cut_clear.S32x8 (keepFlag A) Pre_cut_clear.Facts.shapeCasts_S256_S32x8)
      (cmpf .olt (shapeCast Pre_cut_clear.S32x8 (addf (broadcastInDim Pre_cut_clear.S256 ![] Pre_cut_clear.Facts.bcast_S_S256
        (constant (F := Ideal) Pre_cut_clear.S_ .f32 0xE0AD78EC#32)) B) Pre_cut_clear.Facts.shapeCasts_S256_S32x8)
      (broadcastInDim Pre_cut_clear.S32x8 ![0, 1] Pre_cut_clear.Facts.bcast_S32x1_S32x8_0_1
        (extractStridedSlice Pre_cut_clear.S32x1 ![0, 7] (best A B).1 Pre_cut_clear.Facts.slices_S32x8_S32x1_0_7))) := rfl
  rcases either_at _ _ (ix2 b r) ((congrFun e (ix2 b r)).symm.trans (congrFun h (ix2 b r))) with h' | h'
  · rw [Beam.split_words (q := 8) rfl] at h'
    exact Or.inl h'
  · have h' := (below_at _ _ (ix2 b r)).1 h'
    rw [eighth_at, Beam.split_words (q := 8) rfl, masked_at] at h'
    exact Or.inr h'

end Cert.ReferenceIdeal

end
-- ==== Proof.Algebraic.lean ====
/-
  The algebraic claim: under the precondition the kernel and the reference end with equal results.
-/
module

public import proofs.«01_k».proof.Defs
public import proofs.«01_k».proof.Proof.Arrays
public import proofs.«01_k».proof.Proof.RowWalk
public import proofs.«01_k».proof.Proof.CutClear

@[expose] public section

noncomputable section

namespace Cert.Beam

open Idealize.ShloMosaic Idealize.ShloMosaic.TcCoe Idealize.SL.Sem
open Cert.ReferenceIdeal (rowTop keepFlag kept lineOf beamOf place)

/-- The largest of a beam's log-probabilities is at most what each is at most. -/
theorem beamTop_le (A : FVec Ideal ⟨2, ![256, 100000]⟩ .f32) (b : Fin 32) (r : Fin 8) (y : EReal) :
    rowTop A (ix1 ⟨b.val * 8 + r.val, by omega⟩) ≤ y ↔ ∀ k, k < 100000 → lpRow A b r k ≤ y := by
  rw [Cert.ReferenceIdeal.rowTop_le]
  unfold lpRow
  constructor
  · intro h k hk
    rw [dif_pos hk]
    exact h ⟨k, hk⟩
  · intro h k
    have := h k.val k.isLt
    rwa [dif_pos k.isLt] at this

/-- A beam keeps its end of sequence where its log-probability is above the multiple of the largest. -/
theorem kept_iff (A : FVec Ideal ⟨2, ![256, 100000]⟩ .f32) (b : Fin 32) (r : Fin 8) :
    kept A b r ↔ Ideal.ofBits .f32 0x3FC00000#32 * rowTop A (ix1 ⟨b.val * 8 + r.val, by omega⟩) < lpRow A b r 2 := by
  unfold kept lpRow
  rw [dif_pos (show 2 < 100000 by decide)]
  exact Cert.ReferenceIdeal.keepFlag_at A _ _ rfl

/-- What the kernel's last point of a batch stores is the reference's row. -/
theorem stored (m : (ℓ : Loc Cert.KernelIdeal.nD Cert.KernelIdeal.τ Cert.KernelIdeal.sig) → Buf (Elt Ideal) ℓ) (c : Dev Cert.KernelIdeal.nD)
    (A : FVec Ideal ⟨2, ![256, 100000]⟩ .f32) (B : FVec Ideal ⟨1, ![256]⟩ .f32)
    (hA : m (c.tc.loc Cert.KernelIdeal.main_arg0) = A) (hB : m (c.tc.loc Cert.KernelIdeal.main_arg1) = B)
    (h : (Cert.Pre_cut_clear.fn (F := Ideal) A B).1 = (fun _ => 1#1) ∧ (Cert.Pre_cut_clear.fn (F := Ideal) A B).2 = fun _ => 1#1)
    (b : Fin 32) (j : Fin 8) :
    (Cert.KernelIdeal.dats m 0 c).after 2 (Cert.KernelIdeal.lastPoint b) (ix3 0 0 j) = lineOf A B b (place A B b j)
    ∧ (Cert.KernelIdeal.dats m 0 c).after 3 (Cert.KernelIdeal.lastPoint b) (ix3 0 0 j) = BitVec.ofNat 32 ((place A B b j).val % 100000)
    ∧ (Cert.KernelIdeal.dats m 0 c).after 4 (Cert.KernelIdeal.lastPoint b) (ix3 0 0 j)
        = BitVec.ofNat 32 ((place A B b j).val / 100000 + b.val * 8) := by
  subst hA hB
  exact Cert.KernelIdeal.rows_last m c b (Cert.KernelIdeal.lastPoint b) rfl _ (fun r y => beamTop_le _ b r y) _ (fun r => kept_iff _ b r) Cert.ReferenceIdeal.masked
    (fun r => Cert.ReferenceIdeal.clear_ninth _ _ h.1 b r) (fun r => Cert.ReferenceIdeal.clear_masked _ _ h.2 b r) j

/-- The kernel and the reference end with equal results. -/
theorem results_equal : Cert.algebraic_KernelIdeal_ReferenceIdeal_pre_cut_clear := fun m g m' g' hpre hargs =>
  ⟨_, _, _,
    Cert.KernelIdeal.run_rows m g _ _ _ fun c b j => stored m c _ _ rfl rfl (hpre c) b j,
    Cert.ReferenceIdeal.run_rows m' g' _ _ (fun c => (hargs c).1) (fun c => (hargs c).2)⟩

end Cert.Beam

end
-- ==== Proof.lean ====
/-
  The proof of `Cert.Claim`, assembled from the modules under Proof/.
-/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_cut_clear
public import Idealize.ShloMosaic.Adequacy
public import Idealize.ShloMosaic.Init

@[expose] public section

noncomputable section

namespace Cert.Proof

open Idealize.ShloMosaic Idealize.SL.Sem

/-- Every claim of the certificate: the frames, the named mask, and the kernel's results equal to the reference's. -/
theorem claim : Cert.Claim :=
  ⟨Cert.Kernel.Gen.facts, Cert.KernelIdeal.Gen.facts, Cert.ReferenceIdeal.Gen.facts, Cert.Pre_cut_clear.Gen.facts,
    Beam.frame_kernel, Beam.frame_ideal, fun m g _ => Beam.frame_ideal m g trivial,
    Beam.frame_reference, fun m g _ => Beam.frame_reference m g trivial, Beam.mask_named, Beam.results_equal⟩

end Cert.Proof

end
